-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 64]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v3_0) i = v0 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v3_1) i = v1 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v3_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 64]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v26) i = v0 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v32) i = v1 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v28) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S16384x32x1 : Shape := ⟨3, ![16384, 32, 1]⟩
abbrev S1 : Shape := ⟨1, ![1]⟩
abbrev S1x1x1 : Shape := ⟨3, ![1, 1, 1]⟩
abbrev S16384x33 : Shape := ⟨2, ![16384, 33]⟩
abbrev S16384x9 : Shape := ⟨2, ![16384, 9]⟩
abbrev S16384x8 : Shape := ⟨2, ![16384, 8]⟩

class Facts : Prop where
  shapeCasts_S4x4096x2048_S16384x2048 : S4x4096x2048.ShapeCasts S16384x2048
  transposes_S64x2048_S2048x64_1_0 : S64x2048.Transposes [1, 0] S2048x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  sliceFits_S16384x64_S16384x32 : S16384x64.Slices (fun _ => 0) S16384x32
  bcast_S_S16384x32 : S_.BroadcastsInDim S16384x32 (![] : Fin 0 → Fin S16384x32.rank)
  shapeCasts_S16384x32_S16384x32x1 : S16384x32.ShapeCasts S16384x32x1
  bcast_S_S16384x32x1 : S_.BroadcastsInDim S16384x32x1 (![] : Fin 0 → Fin S16384x32x1.rank)
  bcast_S1_S1x1x1_2 : S1.BroadcastsInDim S1x1x1 (![2] : Fin 1 → Fin S1x1x1.rank)
  bcast_S1x1x1_S16384x32x1_0_1_2 : S1x1x1.BroadcastsInDim S16384x32x1 (![0, 1, 2] : Fin 3 → Fin S16384x32x1.rank)
  reducesTo_S16384x32x1_S16384x32_d2 : S16384x32x1.ReducesTo [2] S16384x32
  sliceFits_S16384x64_S16384x33 : S16384x64.Slices (fun _ => 0) S16384x33
  sliceFits_S16384x32_S16384x9 : S16384x32.Slices (fun _ => 0) S16384x9
  slices_S16384x33_S16384x1_0_31 : S16384x33.Slices ![0, 31] S16384x1
  slices_S16384x33_S16384x1_0_32 : S16384x33.Slices ![0, 32] S16384x1
  slices_S16384x9_S16384x1_0_0 : S16384x9.Slices ![0, 0] S16384x1
  bcast_S_S16384x1 : S_.BroadcastsInDim S16384x1 (![] : Fin 0 → Fin S16384x1.rank)
  slices_S16384x9_S16384x8_0_0 : S16384x9.Slices ![0, 0] S16384x8
  slices_S16384x9_S16384x8_0_1 : S16384x9.Slices ![0, 1] S16384x8
  reducesTo_S16384x8_S16384_d1 : S16384x8.ReducesTo [1] S16384
  bcast_S_S16384x64 : S_.BroadcastsInDim S16384x64 (![] : Fin 0 → Fin S16384x64.rank)
  bcast_S16384x1_S16384x8_0_1 : S16384x1.BroadcastsInDim S16384x8 (![0, 1] : Fin 2 → Fin S16384x8.rank)
  dot_S16384x2048_S2048x64_S16384x64_1_0_0_1_n_n_wf : DotDims.WF S16384x2048 S2048x64 S16384x64 [1] [0] [0] [1] [] []
  gather_S16384x64_S16384x32x1_S16384x32_n_1_0_0_1_2_11_wf : GatherDims.WF S16384x64 S16384x32x1 S16384x32 [] [1] [0] [1] [0] 2 ![1, 1]

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def gather_S16384x64_S16384x32x1_S16384x32_n_1_0_0_1_2_11 : GatherDims S16384x64 S16384x32x1 S16384x32 where
  offsetDims := []
  collapsedSliceDims := [1]
  operandBatchingDims := [0]
  startIndicesBatchingDims := [0]
  startIndexMap := [1]
  indexVectorDim := 2
  sliceSizes := ![1, 1]
  wf := gather_S16384x64_S16384x32x1_S16384x32_n_1_0_0_1_2_11_wf
def fn_take_along_axis {F : FTy → Type} [FloatOps F] (arg0 : FVec F S16384x64 .f32) (arg1 : IVec S16384x32 32) : FVec F S16384x32 .f32 :=
  let c : IVec S_ 32 := constantI S_ 32 0#32
  let v0 : IVec S16384x32 32 := broadcastInDim S16384x32 ![] bcast_S_S16384x32 c
  let v1 : IVec S16384x32 1 := cmpi .slt arg1 v0
  let c_0 : IVec S_ 32 := constantI S_ 32 64#32
  let v2 : IVec S16384x32 32 := broadcastInDim S16384x32 ![] bcast_S_S16384x32 c_0
  let v3 : IVec S16384x32 32 := addi arg1 v2
  let v4 : IVec S16384x32 32 := select v1 v3 arg1
  let v5 : IVec S16384x32x1 32 := shapeCast S16384x32x1 v4 shapeCasts_S16384x32_S16384x32x1
  let c_1 : IVec S1 32 := constantI S1 32 63#32
  let c_2 : IVec S_ 32 := constantI S_ 32 0#32
  let v6 : IVec S16384x32x1 32 := broadcastInDim S16384x32x1 ![] bcast_S_S16384x32x1 c_2
  let v7 : IVec S16384x32x1 1 := cmpi .sge v5 v6
  let v8 : IVec S1x1x1 32 := broadcastInDim S1x1x1 ![2] bcast_S1_S1x1x1_2 c_1
  let v9 : IVec S16384x32x1 32 := broadcastInDim S16384x32x1 ![0, 1, 2] bcast_S1x1x1_S16384x32x1_0_1_2 v8
  let v10 : IVec S16384x32x1 1 := cmpi .sle v5 v9
  let v11 : IVec S16384x32x1 1 := andi v7 v10
  let c_3 : IVec S_ 1 := constantI S_ 1 1#1
  let v12 : IVec S16384x32 1 := (fun x v => Host.reduce IntOp.andi x v reducesTo_S16384x32x1_S16384x32_d2 h_S_) v11 c_3
  let v13 : FVec F S16384x32 .f32 := (fun x i => Host.gather gather_S16384x64_S16384x32x1_S16384x32_n_1_0_0_1_2_11 x i) arg0 v5
  let cst : FVec F S_ .f32 := constant S_ .f32 0x7FC00000#32
  let v14 : FVec F S16384x32 .f32 := broadcastInDim S16384x32 ![] bcast_S_S16384x32 cst
  let v15 : FVec F S16384x32 .f32 := select v12 v13 v14
  v15

def fn_part2 {F : FTy → Type} [FloatOps F] (main_values_7 : FVec F S16384x9 .f32) (main_v30 : IVec S16384x1 1) (main_v34 : IVec S16384x1 1) : IVec S16384x64 1 × IVec S16384x8 1 × IVec S16384x8 1 :=
  let main_v35 : FVec F S16384x8 .f32 := (extractStridedSlice S16384x8 ![0, 0] · slices_S16384x9_S16384x8_0_0) main_values_7
  let main_v36 : FVec F S16384x8 .f32 := (extractStridedSlice S16384x8 ![0, 1] · slices_S16384x9_S16384x8_0_1) main_values_7
  let main_v37 : IVec S16384x8 1 := cmpf .ogt main_v35 main_v36
  let main_c : IVec S_ 1 := constantI S_ 1 1#1
  let main_v38 : IVec S16384 1 := (fun x v => Host.reduce IntOp.andi x v reducesTo_S16384x8_S16384_d1 h_S_) main_v37 main_c
  let main_v39 : IVec S16384x1 1 := broadcastInDim S16384x1 ![0] bcast_S16384_S16384x1_0 main_v38
  let main_v40 : IVec S16384x1 1 := andi main_v30 main_v39
  let main_c_10 : IVec S_ 1 := constantI S_ 1 1#1
  let main_v41 : IVec S16384x64 1 := broadcastInDim S16384x64 ![] bcast_S_S16384x64 main_c_10
  let main_v42 : IVec S16384x8 1 := broadcastInDim S16384x8 ![0, 1] bcast_S16384x1_S16384x8_0_1 main_v34
  let main_v43 : IVec S16384x8 1 := broadcastInDim S16384x8 ![0, 1] bcast_S16384x1_S16384x8_0_1 main_v40
  (main_v41, main_v42, main_v43)

def fn_part1 {F : FTy → Type} [FloatOps F] (main_v13 : FVec F S16384x64 .f32) (main_indices : IVec S16384x32 32) (main_v15 : FVec F S16384x64 .f32) (main_v16 : FVec F S16384 .f32) (main_cst_3 : FVec F S_ .f32) : IVec S16384x64 1 × IVec S16384x8 1 × IVec S16384x8 1 :=
  let main_v17 : FVec F S16384 .f32 := broadcastInDim S16384 ![] bcast_S_S16384 main_cst_3
  let main_v18 : FVec F S16384 .f32 := maximumf main_v17 main_v16
  let main_v19 : FVec F S16384x1 .f32 := broadcastInDim S16384x1 ![0] bcast_S16384_S16384x1_0 main_v18
  let main_v20 : FVec F S16384x64 .f32 := broadcastInDim S16384x64 ![0, 1] bcast_S16384x1_S16384x64_0_1 main_v19
  let main_v21 : FVec F S16384x64 .f32 := subf main_v15 main_v20
  let main_v22 : FVec F S16384x64 .f32 := Host.exp main_v21
  let main_cst_4 : FVec F S_ .f32 := constant S_ .f32 0x00000000#32
  let main_v23 : FVec F S16384 .f32 := (fun x v => Host.reduceAdd x v reducesTo_S16384x64_S16384_d1 h_S_) main_v22 main_cst_4
  let main_v24 : FVec F S16384x1 .f32 := broadcastInDim S16384x1 ![0] bcast_S16384_S16384x1_0 main_v23
  let main_v25 : FVec F S16384x64 .f32 := broadcastInDim S16384x64 ![0, 1] bcast_S16384x1_S16384x64_0_1 main_v24
  let main_v26 : FVec F S16384x64 .f32 := Host.divf main_v22 main_v25
  let main_v27 : FVec F S16384x32 .f32 := fn_take_along_axis (F := F) main_v26 main_indices
  let main_values_5 : FVec F S16384x33 .f32 := (fun x => (Host.topK S16384x33 1 (FloatOps.cmpfTotal .gt) x sliceFits_S16384x64_S16384x33).1) main_v13
  let main_indices_6 : IVec S16384x33 32 := (fun x => (Host.topK S16384x33 1 (FloatOps.cmpfTotal .gt) x sliceFits_S16384x64_S16384x33).2) main_v13
  let main_values_7 : FVec F S16384x9 .f32 := (fun x => (Host.topK S16384x9 1 (FloatOps.cmpfTotal .gt) x sliceFits_S16384x32_S16384x9).1) main_v27
  let main_indices_8 : IVec S16384x9 32 := (fun x => (Host.topK S16384x9 1 (FloatOps.cmpfTotal .gt) x sliceFits_S16384x32_S16384x9).2) main_v27
  let main_v28 : FVec F S16384x1 .f32 := (extractStridedSlice S16384x1 ![0, 31] · slices_S16384x33_S16384x1_0_31) main_values_5
  let main_v29 : FVec F S16384x1 .f32 := (extractStridedSlice S16384x1 ![0, 32] · slices_S16384x33_S16384x1_0_32) main_values_5
  let main_v30 : IVec S16384x1 1 := cmpf .ogt main_v28 main_v29
  let main_v31 : FVec F S16384x1 .f32 := (extractStridedSlice S16384x1 ![0, 0] · slices_S16384x9_S16384x1_0_0) main_values_7
  let main_cst_9 : FVec F S_ .f32 := constant S_ .f32 0x00000000#32
  let main_v32 : FVec F S16384x1 .f32 := broadcastInDim S16384x1 ![] bcast_S_S16384x1 main_cst_9
  let main_v33 : IVec S16384x1 1 := cmpf .oge main_v31 main_v32
  let main_v34 : IVec S16384x1 1 := andi main_v30 main_v33
  fn_part2 (F := F) main_values_7 main_v30 main_v34

def fn {F : FTy → Type} [FloatOps F] (main_arg0 : FVec F S4x4096x2048 .f32) (main_arg1 : FVec F S64x2048 .f32) (main_arg2 : FVec F S64x2048 .f32) : IVec S16384x64 1 × IVec S16384x8 1 × IVec S16384x8 1 :=
  let main_v0 : FVec F S16384x2048 .f32 := shapeCast S16384x2048 main_arg0 shapeCasts_S4x4096x2048_S16384x2048
  let main_v1 : FVec F S2048x64 .f32 := (transpose S2048x64 [1, 0] · transposes_S64x2048_S2048x64_1_0) main_arg2
  let main_v2 : FVec F S16384x64 .f32 := (fun l r => Host.dotGeneral dot_S16384x2048_S2048x64_S16384x64_1_0_0_1_n_n none l r) main_v0 main_v1
  let main_cst : FVec F S_ .f32 := constant S_ .f32 0xFF800000#32
  let main_v3 : FVec F S16384 .f32 := (fun x v => Host.reduce FloatOps.maximumf x v reducesTo_S16384x64_S16384_d1 h_S_) main_v2 main_cst
  let main_cst_0 : FVec F S_ .f32 := constant S_ .f32 0xFF800000#32
  let main_v4 : FVec F S16384 .f32 := broadcastInDim S16384 ![] bcast_S_S16384 main_cst_0
  let main_v5 : FVec F S16384 .f32 := maximumf main_v4 main_v3
  let main_v6 : FVec F S16384x1 .f32 := broadcastInDim S16384x1 ![0] bcast_S16384_S16384x1_0 main_v5
  let main_v7 : FVec F S16384x64 .f32 := broadcastInDim S16384x64 ![0, 1] bcast_S16384x1_S16384x64_0_1 main_v6
  let main_v8 : FVec F S16384x64 .f32 := subf main_v2 main_v7
  let main_v9 : FVec F S16384x64 .f32 := Host.exp main_v8
  let main_cst_1 : FVec F S_ .f32 := constant S_ .f32 0x00000000#32
  let main_v10 : FVec F S16384 .f32 := (fun x v => Host.reduceAdd x v reducesTo_S16384x64_S16384_d1 h_S_) main_v9 main_cst_1
  let main_v11 : FVec F S16384x1 .f32 := broadcastInDim S16384x1 ![0] bcast_S16384_S16384x1_0 main_v10
  let main_v12 : FVec F S16384x64 .f32 := broadcastInDim S16384x64 ![0, 1] bcast_S16384x1_S16384x64_0_1 main_v11
  let main_v13 : FVec F S16384x64 .f32 := Host.divf main_v9 main_v12
  let main_values : FVec F S16384x32 .f32 := (fun x => (Host.topK S16384x32 1 (FloatOps.cmpfTotal .gt) x sliceFits_S16384x64_S16384x32).1) main_v13
  let main_indices : IVec S16384x32 32 := (fun x => (Host.topK S16384x32 1 (FloatOps.cmpfTotal .gt) x sliceFits_S16384x64_S16384x32).2) main_v13
  let main_v14 : FVec F S2048x64 .f32 := (transpose S2048x64 [1, 0] · transposes_S64x2048_S2048x64_1_0) main_arg1
  let main_v15 : FVec F S16384x64 .f32 := (fun l r => Host.dotGeneral dot_S16384x2048_S2048x64_S16384x64_1_0_0_1_n_n none l r) main_v0 main_v14
  let main_cst_2 : FVec F S_ .f32 := constant S_ .f32 0xFF800000#32
  let main_v16 : FVec F S16384 .f32 := (fun x v => Host.reduce FloatOps.maximumf x v reducesTo_S16384x64_S16384_d1 h_S_) main_v15 main_cst_2
  let main_cst_3 : FVec F S_ .f32 := constant S_ .f32 0xFF800000#32
  fn_part1 (F := F) main_v13 main_indices main_v15 main_v16 main_cst_3
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S128x2048 : Shape := ⟨2, ![128, 2048]⟩
abbrev S2048x128 : Shape := ⟨2, ![2048, 128]⟩
abbrev S16384x64 : Shape := ⟨2, ![16384, 64]⟩
abbrev S16384x8 : Shape := ⟨2, ![16384, 8]⟩
abbrev S1024x2048 : Shape := ⟨2, ![1024, 2048]⟩
abbrev S2048x64 : Shape := ⟨2, ![2048, 64]⟩
abbrev S2048x8 : Shape := ⟨2, ![2048, 8]⟩
abbrev S1024x128 : Shape := ⟨2, ![1024, 128]⟩
abbrev S128x1024 : Shape := ⟨2, ![128, 1024]⟩
abbrev S64x1024 : Shape := ⟨2, ![64, 1024]⟩
abbrev S1024 : Shape := ⟨1, ![1024]⟩
abbrev S1x1024 : Shape := ⟨2, ![1, 1024]⟩
abbrev S64x1 : Shape := ⟨2, ![64, 1]⟩
abbrev S63x1024 : Shape := ⟨2, ![63, 1024]⟩
abbrev S62x1024 : Shape := ⟨2, ![62, 1024]⟩
abbrev S2x1024 : Shape := ⟨2, ![2, 1024]⟩
abbrev S60x1024 : Shape := ⟨2, ![60, 1024]⟩
abbrev S4x1024 : Shape := ⟨2, ![4, 1024]⟩
abbrev S8x1024 : Shape := ⟨2, ![8, 1024]⟩
abbrev S16x1024 : Shape := ⟨2, ![16, 1024]⟩
abbrev S32x1024 : Shape := ⟨2, ![32, 1024]⟩
abbrev S1024x64 : Shape := ⟨2, ![1024, 64]⟩
abbrev S1024x8 : Shape := ⟨2, ![1024, 8]⟩

abbrev nBuf : Space → Nat
  | .hbm => 9
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64x2048, .f32⟩
  | .hbm, ⟨3, _⟩ => ⟨S16384x2048, .f32⟩
  | .hbm, ⟨4, _⟩ => ⟨S128x2048, .f32⟩
  | .hbm, ⟨5, _⟩ => ⟨S2048x128, .f32⟩
  | .hbm, ⟨6, _⟩ => ⟨S16384x64, .f32⟩
  | .hbm, ⟨7, _⟩ => ⟨S16384x8, .f32⟩
  | .hbm, ⟨8, _⟩ => ⟨S16384x8, .i32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x128, .f32⟩
  | .local _ .vmem, ⟨5, _⟩ => ⟨S2048x64, .f32⟩
  | .local _ .vmem, ⟨6, _⟩ => ⟨S2048x64, .f32⟩
  | .local _ .vmem, ⟨7, _⟩ => ⟨S2048x8, .f32⟩
  | .local _ .vmem, ⟨8, _⟩ => ⟨S2048x8, .f32⟩
  | .local _ .vmem, ⟨9, _⟩ => ⟨S2048x8, .i32⟩
  | .local _ .vmem, ⟨10, _⟩ => ⟨S2048x8, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S16384x32x1 : Shape := ⟨3, ![16384, 32, 1]⟩
abbrev S1 : Shape := ⟨1, ![1]⟩
abbrev S1x1x1 : Shape := ⟨3, ![1, 1, 1]⟩
abbrev S16384x8 : Shape := ⟨2, ![16384, 8]⟩
abbrev S16384x8x1 : Shape := ⟨3, ![16384, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64x2048, .f32⟩
  | .hbm, ⟨3, _⟩ => ⟨S16384x2048, .f32⟩
  | .hbm, ⟨4, _⟩ => ⟨S2048x64, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x64, .f32⟩
  | .hbm, ⟨19, _⟩ => ⟨S16384x64, .f32⟩
  | .hbm, ⟨20, _⟩ => ⟨S16384x32, .f32⟩
  | .hbm, ⟨21, _⟩ => ⟨S16384x32, .i32⟩
  | .hbm, ⟨22, _⟩ => ⟨S2048x64, .f32⟩
  | .hbm, ⟨23, _⟩ => ⟨S16384x64, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x64, .f32⟩
  | .hbm, ⟨37, _⟩ => ⟨S16384x64, .f32⟩
  | .hbm, ⟨38, _⟩ => ⟨S_, .i32⟩
  | .hbm, ⟨39, _⟩ => ⟨S16384x32, .i32⟩
  | .hbm, ⟨40, _⟩ => ⟨S16384x32, .i1⟩
  | .hbm, ⟨41, _⟩ => ⟨S_, .i32⟩
  | .hbm, ⟨42, _⟩ => ⟨S16384x32, .i32⟩
  | .hbm, ⟨43, _⟩ => ⟨S16384x32, .i32⟩
  | .hbm, ⟨44, _⟩ => ⟨S16384x32, .i32⟩
  | .hbm, ⟨45, _⟩ => ⟨S16384x32x1, .i32⟩
  | .hbm, ⟨46, _⟩ => ⟨S1, .i32⟩
  | .hbm, ⟨47, _⟩ => ⟨S_, .i32⟩
  | .hbm, ⟨48, _⟩ => ⟨S16384x32x1, .i32⟩
  | .hbm, ⟨49, _⟩ => ⟨S16384x32x1, .i1⟩
  | .hbm, ⟨50, _⟩ => ⟨S1x1x1, .i32⟩
  | .hbm, ⟨51, _⟩ => ⟨S16384x32x1, .i32⟩
  | .hbm, ⟨52, _⟩ => ⟨S16384x32x1, .i1⟩
  | .hbm, ⟨53, _⟩ => ⟨S16384x32x1, .i1⟩
  | .hbm, ⟨54, _⟩ => ⟨S_, .i1⟩
  | .hbm, ⟨55, _⟩ => ⟨S16384x32, .i1⟩
  | .hbm, ⟨56, _⟩ => ⟨S16384x32, .f32⟩
  | .hbm, ⟨57, _⟩ => ⟨S_, .f32⟩
  | .hbm, ⟨58, _⟩ => ⟨S16384x32, .f32⟩
  | .hbm, ⟨59, _⟩ => ⟨S16384x32, .f32⟩
  | .hbm, ⟨60, _⟩ => ⟨S16384x8, .f32⟩
  | .hbm, ⟨61, _⟩ => ⟨S16384x8, .i32⟩
  | .hbm, ⟨62, _⟩ => ⟨S_, .i32⟩
  | .hbm, ⟨63, _⟩ => ⟨S16384x8, .i32⟩
  | .hbm, ⟨64, _⟩ => ⟨S16384x8, .i1⟩
  | .hbm, ⟨65, _⟩ => ⟨S_, .i32⟩
  | .hbm, ⟨66, _⟩ => ⟨S16384x8, .i32⟩
  | .hbm, ⟨67, _⟩ => ⟨S16384x8, .i32⟩
  | .hbm, ⟨68, _⟩ => ⟨S16384x8, .i32⟩
  | .hbm, ⟨69, _⟩ => ⟨S16384x8x1, .i32⟩
  | .hbm, ⟨70, _⟩ => ⟨S1, .i32⟩
  | .hbm, ⟨71, _⟩ => ⟨S_, .i32⟩
  | .hbm, ⟨72, _⟩ => ⟨S16384x8x1, .i32⟩
  | .hbm, ⟨73, _⟩ => ⟨S16384x8x1, .i1⟩
  | .hbm, ⟨74, _⟩ => ⟨S1x1x1, .i32⟩
  | .hbm, ⟨75, _⟩ => ⟨S16384x8x1, .i32⟩
  | .hbm, ⟨76, _⟩ => ⟨S16384x8x1, .i1⟩
  | .hbm, ⟨77, _⟩ => ⟨S16384x8x1, .i1⟩
  | .hbm, ⟨78, _⟩ => ⟨S_, .i1⟩
  | .hbm, ⟨79, _⟩ => ⟨S16384x8, .i1⟩
  | .hbm, ⟨80, _⟩ => ⟨S16384x8, .i32⟩
  | .hbm, ⟨81, _⟩ => ⟨S_, .i32⟩
  | .hbm, ⟨82, _⟩ => ⟨S16384x8, .i32⟩
  | .hbm, ⟨83, _⟩ => ⟨S16384x8, .i32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S16384x8, .f32⟩
  | .hbm, ⟨88, _⟩ => ⟨S16384x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_cst : Ref sig .tc := ⟨.hbm, 57, rfl⟩
abbrev main_call0_v14 : Ref sig .tc := ⟨.hbm, 58, rfl⟩
abbrev main_v27 : Ref sig .tc := ⟨.hbm, 59, rfl⟩
abbrev main_values_5 : Ref sig .tc := ⟨.hbm, 60, rfl⟩
abbrev main_indices_6 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_c_4 : Ref sig .tc := ⟨.hbm, 81, rfl⟩
abbrev main_call1_v14 : Ref sig .tc := ⟨.hbm, 82, rfl⟩
abbrev main_v28 : Ref sig .tc := ⟨.hbm, 83, rfl⟩
abbrev main_cst_7 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩

abbrev nD : Nat := 1
abbrev τ : Topo := Topo.v7x

variable {F : FTy → Type} [FloatOps F]
-- ==== Proof.Step.lean ====
/- The kernel's body on one half of its rows, as vectors: the pieces its printed operations repeat.
   `step` is one compare-exchange of the sort along the 64 sublanes, `s1` … `s21` the vectors it leaves one
   after another, `mk0` the masked probabilities, `strike` one round's removal of the chosen expert, and
   `probsT`, `valsT`, `idxT` what is transposed and stored. -/
module

public import proofs.«01_k».proof.Proof.Gen.KernelIdeal.Frame

@[expose] public section

noncomputable section

namespace Cert.Proof

open Idealize.ShloMosaic Idealize.SL.Sem Cert.KernelIdeal Cert.KernelIdeal.Gen

variable {F : FTy → Type} [FloatOps F]

/-- The number of the sublane, down the 64 sublanes. -/
def lanes : IVec S64x1 32 := iota .tc S64x1 32 [0] iota_S64x1_d0_w32

/-- Where the sublane's number has the bit `b` clear. -/
def bit (b : BitVec 32) : IVec S64x1 1 := cmpi .eq (andi lanes (broadcast S64x1 b)) (broadcast S64x1 0#32)

/-- A column of bits spread over the 1024 lanes. -/
def spread (m : IVec S64x1 1) : IVec S64x1024 1 :=
  broadcastTo S64x1024 (shapeCast S64x1 m shapeCasts_S64x1_S64x1) broadcasts_S64x1_S64x1024

/-- Where the lower of a pair goes: the two bits agree. -/
def low (k j : BitVec 32) : IVec S64x1 1 := xori (xori (bit k) (bit j)) (constantI S64x1 1 1#1)

/-- The row at distance 1: the next where the bit is clear, else the one before. -/
def part1 (v : FVec F S64x1024 .f32) : FVec F S64x1024 .f32 :=
  select (spread (bit 1#32))
    (concatenate S64x1024 0 [⟨S63x1024, extractStridedSlice S63x1024 ![1, 0] v slices_S64x1024_o1_0_S63x1024⟩,
      ⟨S1x1024, extractStridedSlice S1x1024 ![0, 0] v slices_S64x1024_o0_0_S1x1024⟩]
      concatenates_S63x1024_S1x1024_S64x1024_d0)
    (concatenate S64x1024 0 [⟨S1x1024, extractStridedSlice S1x1024 ![63, 0] v slices_S64x1024_o63_0_S1x1024⟩,
      ⟨S63x1024, extractStridedSlice S63x1024 ![0, 0] v slices_S64x1024_o0_0_S63x1024⟩]
      concatenates_S1x1024_S63x1024_S64x1024_d0)

/-- The row at distance 2. -/
def part2 (v : FVec F S64x1024 .f32) : FVec F S64x1024 .f32 :=
  select (spread (bit 2#32))
    (concatenate S64x1024 0 [⟨S62x1024, extractStridedSlice S62x1024 ![2, 0] v slices_S64x1024_o2_0_S62x1024⟩,
      ⟨S2x1024, extractStridedSlice S2x1024 ![0, 0] v slices_S64x1024_o0_0_S2x1024⟩]
      concatenates_S62x1024_S2x1024_S64x1024_d0)
    (concatenate S64x1024 0 [⟨S2x1024, extractStridedSlice S2x1024 ![62, 0] v slices_S64x1024_o62_0_S2x1024⟩,
      ⟨S62x1024, extractStridedSlice S62x1024 ![0, 0] v slices_S64x1024_o0_0_S62x1024⟩]
      concatenates_S2x1024_S62x1024_S64x1024_d0)

/-- The row at distance 4. -/
def part4 (v : FVec F S64x1024 .f32) : FVec F S64x1024 .f32 :=
  select (spread (bit 4#32))
    (concatenate S64x1024 0 [⟨S60x1024, extractStridedSlice S60x1024 ![4, 0] v slices_S64x1024_o4_0_S60x1024⟩,
      ⟨S4x1024, extractStridedSlice S4x1024 ![0, 0] v slices_S64x1024_o0_0_S4x1024⟩]
      concatenates_S60x1024_S4x1024_S64x1024_d0)
    (concatenate S64x1024 0 [⟨S4x1024, extractStridedSlice S4x1024 ![60, 0] v slices_S64x1024_o60_0_S4x1024⟩,
      ⟨S60x1024, extractStridedSlice S60x1024 ![0, 0] v slices_S64x1024_o0_0_S60x1024⟩]
      concatenates_S4x1024_S60x1024_S64x1024_d0)

/-- The row at distance 8: neighbouring blocks of 8 rows exchanged. -/
def part8 (v : FVec F S64x1024 .f32) : FVec F S64x1024 .f32 :=
  concatenate S64x1024 0
    [⟨S8x1024, extractStridedSlice S8x1024 ![8, 0] v slices_S64x1024_o8_0_S8x1024⟩,
     ⟨S8x1024, extractStridedSlice S8x1024 ![0, 0] v slices_S64x1024_o0_0_S8x1024⟩,
     ⟨S8x1024, extractStridedSlice S8x1024 ![24, 0] v slices_S64x1024_o24_0_S8x1024⟩,
     ⟨S8x1024, extractStridedSlice S8x1024 ![16, 0] v slices_S64x1024_o16_0_S8x1024⟩,
     ⟨S8x1024, extractStridedSlice S8x1024 ![40, 0] v slices_S64x1024_o40_0_S8x1024⟩,
     ⟨S8x1024, extractStridedSlice S8x1024 ![32, 0] v slices_S64x1024_o32_0_S8x1024⟩,
     ⟨S8x1024, extractStridedSlice S8x1024 ![56, 0] v slices_S64x1024_o56_0_S8x1024⟩,
     ⟨S8x1024, extractStridedSlice S8x1024 ![48, 0] v slices_S64x1024_o48_0_S8x1024⟩]
    concatenates_S8x1024_S8x1024_S8x1024_S8x1024_S8x1024_S8x1024_S8x1024_S8x1024_S64x1024_d0

/-- The row at distance 16. -/
def part16 (v : FVec F S64x1024 .f32) : FVec F S64x1024 .f32 :=
  concatenate S64x1024 0
    [⟨S16x1024, extractStridedSlice S16x1024 ![16, 0] v slices_S64x1024_o16_0_S16x1024⟩,
     ⟨S16x1024, extractStridedSlice S16x1024 ![0, 0] v slices_S64x1024_o0_0_S16x1024⟩,
     ⟨S16x1024, extractStridedSlice S16x1024 ![48, 0] v slices_S64x1024_o48_0_S16x1024⟩,
     ⟨S16x1024, extractStridedSlice S16x1024 ![32, 0] v slices_S64x1024_o32_0_S16x1024⟩]
    concatenates_S16x1024_S16x1024_S16x1024_S16x1024_S64x1024_d0

/-- The row at distance 32: the two halves exchanged. -/
def part32 (v : FVec F S64x1024 .f32) : FVec F S64x1024 .f32 :=
  concatenate S64x1024 0
    [⟨S32x1024, extractStridedSlice S32x1024 ![32, 0] v slices_S64x1024_o32_0_S32x1024⟩,
     ⟨S32x1024, extractStridedSlice S32x1024 ![0, 0] v slices_S64x1024_o0_0_S32x1024⟩]
    concatenates_S32x1024_S32x1024_S64x1024_d0

/-- One compare-exchange: the smaller of a row and its partner where `m` holds, else the larger. -/
def step (m : IVec S64x1 1) (v p : FVec F S64x1024 .f32) : FVec F S64x1024 .f32 :=
  select (spread m) (minimumf v p) (maximumf v p)

variable (b : FVec F S64x1024 .f32)

/-! The vector after each of the sort's 21 compare-exchanges. -/

def s1 := step (low 2#32 1#32) b (part1 b)
def s2 := step (low 4#32 2#32) (s1 b) (part2 (s1 b))
def s3 := step (low 4#32 1#32) (s2 b) (part1 (s2 b))
def s4 := step (low 8#32 4#32) (s3 b) (part4 (s3 b))
def s5 := step (low 8#32 2#32) (s4 b) (part2 (s4 b))
def s6 := step (low 8#32 1#32) (s5 b) (part1 (s5 b))
def s7 := step (low 16#32 8#32) (s6 b) (part8 (s6 b))
def s8 := step (low 16#32 4#32) (s7 b) (part4 (s7 b))
def s9 := step (low 16#32 2#32) (s8 b) (part2 (s8 b))
def s10 := step (low 16#32 1#32) (s9 b) (part1 (s9 b))
def s11 := step (low 32#32 16#32) (s10 b) (part16 (s10 b))
def s12 := step (low 32#32 8#32) (s11 b) (part8 (s11 b))
def s13 := step (low 32#32 4#32) (s12 b) (part4 (s12 b))
def s14 := step (low 32#32 2#32) (s13 b) (part2 (s13 b))
def s15 := step (low 32#32 1#32) (s14 b) (part1 (s14 b))
def s16 := step (low 0#32 32#32) (s15 b) (part32 (s15 b))
def s17 := step (low 0#32 16#32) (s16 b) (part16 (s16 b))
def s18 := step (low 0#32 8#32) (s17 b) (part8 (s17 b))
def s19 := step (low 0#32 4#32) (s18 b) (part4 (s18 b))
def s20 := step (low 0#32 2#32) (s19 b) (part2 (s19 b))
def s21 := step (low 0#32 1#32) (s20 b) (part1 (s20 b))

/-- A row spread over the 64 sublanes. -/
def down (r : FVec F S1x1024 .f32) : FVec F S64x1024 .f32 := broadcastTo S64x1024 r broadcasts_S1x1024_S64x1024

/-- The probabilities where the second logit reaches the sorted column's row 32, and −1 elsewhere. -/
def mk0 (p : FVec F S64x1024 .f32) : FVec F S64x1024 .f32 :=
  select (cmpf .oge b (down (extractStridedSlice S1x1024 ![32, 0] (s21 b) slices_S64x1024_o32_0_S1x1024))) p
    (broadcast S64x1024 (Scalar.ofBits .f32 0xBF800000#32))

/-- The sublane's number as a float. -/
def lanesF : FVec F S64x1 .f32 := sitofp .f32 lanes

variable (m : FVec F S64x1024 .f32)

/-- Each column's largest entry. -/
def top : FVec F S1x1024 .f32 :=
  shapeCast S1x1024 (multiReduction .maximumf [0] S1024 m 0xFF800000#32 reduces_S64x1024_S1024 (.inl rfl) rfl)
    shapeCasts_S1024_S1x1024

/-- Each column's number of the first row that holds its largest entry. -/
def pick : FVec F S1x1024 .f32 :=
  shapeCast S1x1024 (multiReduction .minimumf [0] S1024
    (select (cmpf .oeq m (down (top m)))
      (broadcastTo S64x1024 (shapeCast S64x1 lanesF shapeCasts_S64x1_S64x1) broadcasts_S64x1_S64x1024)
      (broadcast S64x1024 (Scalar.ofBits .f32 0x42800000#32)))
    0x7F800000#32 reduces_S64x1024_S1024 (.inl rfl) rfl) shapeCasts_S1024_S1x1024

/-- The chosen row of each column replaced by −2. -/
def strike : FVec F S64x1024 .f32 :=
  select (cmpf .oeq (broadcastTo S64x1024 lanesF broadcasts_S64x1_S64x1024) (down (pick m)))
    (broadcast S64x1024 (Scalar.ofBits .f32 0xC0000000#32)) m

/-! The vector after each round's removal. -/

def st1 := strike m
def st2 := strike (st1 m)
def st3 := strike (st2 m)
def st4 := strike (st3 m)
def st5 := strike (st4 m)
def st6 := strike (st5 m)
def st7 := strike (st6 m)

/-- The eight largest entries, in order. -/
def tops : FVec F S8x1024 .f32 :=
  concatenate S8x1024 0 [⟨S1x1024, top m⟩, ⟨S1x1024, top (st1 m)⟩, ⟨S1x1024, top (st2 m)⟩, ⟨S1x1024, top (st3 m)⟩,
    ⟨S1x1024, top (st4 m)⟩, ⟨S1x1024, top (st5 m)⟩, ⟨S1x1024, top (st6 m)⟩, ⟨S1x1024, top (st7 m)⟩]
    concatenates_S1x1024_S1x1024_S1x1024_S1x1024_S1x1024_S1x1024_S1x1024_S1x1024_S8x1024_d0

/-- The rows they were found in. -/
def picks : FVec F S8x1024 .f32 :=
  concatenate S8x1024 0 [⟨S1x1024, pick m⟩, ⟨S1x1024, pick (st1 m)⟩, ⟨S1x1024, pick (st2 m)⟩,
    ⟨S1x1024, pick (st3 m)⟩, ⟨S1x1024, pick (st4 m)⟩, ⟨S1x1024, pick (st5 m)⟩, ⟨S1x1024, pick (st6 m)⟩,
    ⟨S1x1024, pick (st7 m)⟩]
    concatenates_S1x1024_S1x1024_S1x1024_S1x1024_S1x1024_S1x1024_S1x1024_S1x1024_S8x1024_d0

/-- The eight entries divided by their sum, a row's eight beside one another. -/
def valsT : FVec F S1024x8 .f32 :=
  transpose S1024x8 [1, 0] (divf (tops m) (broadcastTo S8x1024 (shapeCast S1x1024
    (multiReduction .add [0] S1024 (tops m) 0x00000000#32 reduces_S8x1024_S1024 (.inl rfl) rfl)
    shapeCasts_S1024_S1x1024) broadcasts_S1x1024_S8x1024)) transposes_S8x1024_p1_0_S1024x8

/-- The eight row numbers as integers. -/
def idxT : IVec S1024x8 32 := fptosi 32 (transpose S1024x8 [1, 0] (picks m) transposes_S8x1024_p1_0_S1024x8)

/-- The probabilities, a problem row's 64 beside one another. -/
def probsT (p : FVec F S64x1024 .f32) : FVec F S1024x64 .f32 :=
  transpose S1024x64 [1, 0] p transposes_S64x1024_p1_0_S1024x64

/-- The second gate's products, a problem row down each lane. -/
def bhalf (w : Vec F S2048x128 .f32) (x : Vec F S1024x2048 .f32) : FVec F S64x1024 .f32 :=
  k0_pay6 (View.ld w r0_0) (View.ld x r0_1)

/-- The first gate's probabilities, a problem row down each lane. -/
def phalf (w : Vec F S2048x128 .f32) (x : Vec F S1024x2048 .f32) : FVec F S64x1024 .f32 :=
  k0_pay7 (View.ld w r0_0) (View.ld x r0_1)

end Cert.Proof

end
-- ==== Proof.FirstHalf.lean ====
/- The values of the first half of a grid point, each named node as a term over the sort's and the
   rounds' vectors: one equation a node, from those of the nodes it reads. -/
module

public import proofs.«01_k».proof.Proof.Step

@[expose] public section

noncomputable section

namespace Cert.Proof

open Idealize.ShloMosaic Idealize.SL.Sem Cert.KernelIdeal Cert.KernelIdeal.Gen

variable {F : FTy → Type} [FloatOps F]
variable (x0 x1 : Vec F S1024x2048 .f32) (x2 : Vec F S2048x128 .f32)

theorem n145 :
    k0_pay145 (F := F) x0 x1 x2 =
      lanes := by
  rw [k0_pay145] <;> rfl

theorem n146 :
    k0_pay146 (F := F) x0 x1 x2 =
      k0_pay4 (View.ld x2 r0_0) := by
  rw [k0_pay146] <;> rfl

theorem n147 :
    k0_pay147 (F := F) x0 x1 x2 =
      bhalf x2 x0 := by
  rw [k0_pay147] <;> rfl

theorem n148 :
    k0_pay148 (F := F) x0 x1 x2 =
      phalf x2 x0 := by
  rw [k0_pay148] <;> rfl

theorem n149 :
    k0_pay149 (F := F) x0 x1 x2 =
      lanesF := by
  rw [k0_pay149] <;> rfl

theorem n150 :
    k0_pay150 (F := F) x0 x1 x2 =
      minimumf (bhalf x2 x0) (part1 (bhalf x2 x0)) := by
  rw [k0_pay150] <;> rfl

theorem n151 :
    k0_pay151 (F := F) x0 x1 x2 =
      maximumf (bhalf x2 x0) (part1 (bhalf x2 x0)) := by
  rw [k0_pay151] <;> rfl

theorem n152 :
    k0_pay152 (F := F) x0 x1 x2 =
      shapeCast S64x1 (xori (xori (bit 2#32) (bit 1#32)) (constantI S64x1 1 1#1)) shapeCasts_S64x1_S64x1 := by
  rw [k0_pay152] <;> rfl

theorem n153 :
    k0_pay153 (F := F) x0 x1 x2 =
      constantI S64x1 1 1#1 := by
  rw [k0_pay153] <;> rfl

theorem n154 :
    k0_pay154 (F := F) x0 x1 x2 =
      s2 (bhalf x2 x0) := by
  rw [k0_pay154, n145, n150, n151, n152] <;> rfl

theorem n155 :
    k0_pay155 (F := F) x0 x1 x2 =
      part1 (s2 (bhalf x2 x0)) := by
  rw [k0_pay155, n145, n150, n151, n152] <;> rfl

theorem n156 :
    k0_pay156 (F := F) x0 x1 x2 =
      xori (bit 4#32) (bit 1#32) := by
  rw [k0_pay156, n145] <;> rfl

theorem n157 :
    k0_pay157 (F := F) x0 x1 x2 =
      bit 8#32 := by
  rw [k0_pay157, n145] <;> rfl

theorem n158 :
    k0_pay158 (F := F) x0 x1 x2 =
      s4 (bhalf x2 x0) := by
  rw [k0_pay158, n145, n153, n154, n155, n156] <;> rfl

theorem n159 :
    k0_pay159 (F := F) x0 x1 x2 =
      part2 (s4 (bhalf x2 x0)) := by
  rw [k0_pay159, n145, n153, n154, n155, n156] <;> rfl

theorem n160 :
    k0_pay160 (F := F) x0 x1 x2 =
      andi lanes (broadcast S64x1 2#32) := by
  rw [k0_pay160, n145] <;> rfl

theorem n161 :
    k0_pay161 (F := F) x0 x1 x2 =
      s6 (bhalf x2 x0) := by
  rw [k0_pay161, n145, n157, n158, n159, n160] <;> rfl

theorem n162 :
    k0_pay162 (F := F) x0 x1 x2 =
      bit 16#32 := by
  rw [k0_pay162, n145] <;> rfl

theorem n163 :
    k0_pay163 (F := F) x0 x1 x2 =
      part8 (s6 (bhalf x2 x0)) := by
  rw [k0_pay163, n145, n157, n158, n159, n160] <;> rfl

theorem n164 :
    k0_pay164 (F := F) x0 x1 x2 =
      bit 8#32 := by
  rw [k0_pay164, n145] <;> rfl

theorem n165 :
    k0_pay165 (F := F) x0 x1 x2 =
      bit 32#32 := by
  rw [k0_pay165, n145] <;> rfl

theorem n166 :
    k0_pay166 (F := F) x0 x1 x2 =
      s11 (bhalf x2 x0) := by
  rw [k0_pay166, n145, n161, n162, n163, n164] <;> rfl

theorem n167 :
    k0_pay167 (F := F) x0 x1 x2 =
      s13 (bhalf x2 x0) := by
  rw [k0_pay167, n145, n165, n166] <;> rfl

theorem n168 :
    k0_pay168 (F := F) x0 x1 x2 =
      bit 2#32 := by
  rw [k0_pay168, n145] <;> rfl

theorem n169 :
    k0_pay169 (F := F) x0 x1 x2 =
      extractStridedSlice S62x1024 ![2, 0] (s13 (bhalf x2 x0)) slices_S64x1024_o2_0_S62x1024 := by
  rw [k0_pay169, n145, n165, n166] <;> rfl

theorem n170 :
    k0_pay170 (F := F) x0 x1 x2 =
      extractStridedSlice S2x1024 ![0, 0] (s13 (bhalf x2 x0)) slices_S64x1024_o0_0_S2x1024 := by
  rw [k0_pay170, n145, n165, n166] <;> rfl

theorem n171 :
    k0_pay171 (F := F) x0 x1 x2 =
      bit 0#32 := by
  rw [k0_pay171, n145] <;> rfl

theorem n172 :
    k0_pay172 (F := F) x0 x1 x2 =
      s18 (bhalf x2 x0) := by
  rw [k0_pay172, n145, n165, n167, n168, n169, n170, n171] <;> rfl

theorem n173 :
    k0_pay173 (F := F) x0 x1 x2 =
      andi lanes (broadcast S64x1 4#32) := by
  rw [k0_pay173, n145] <;> rfl

theorem n174 :
    k0_pay174 (F := F) x0 x1 x2 =
      broadcast S64x1 0#32 := by
  rw [k0_pay174] <;> rfl

theorem n175 :
    k0_pay175 (F := F) x0 x1 x2 =
      s20 (bhalf x2 x0) := by
  rw [k0_pay175, n145, n171, n172, n173, n174] <;> rfl

theorem n176 :
    k0_pay176 (F := F) x0 x1 x2 =
      bit 1#32 := by
  rw [k0_pay176, n145] <;> rfl

theorem n177 :
    k0_pay177 (F := F) x0 x1 x2 =
      extractStridedSlice S63x1024 ![1, 0] (s20 (bhalf x2 x0)) slices_S64x1024_o1_0_S63x1024 := by
  rw [k0_pay177, n145, n171, n172, n173, n174] <;> rfl

theorem n178 :
    k0_pay178 (F := F) x0 x1 x2 =
      top (mk0 (bhalf x2 x0) (phalf x2 x0)) := by
  rw [k0_pay178, n145, n147, n148, n171, n175, n176, n177] <;> rfl

theorem n179 :
    k0_pay179 (F := F) x0 x1 x2 =
      st1 (mk0 (bhalf x2 x0) (phalf x2 x0)) := by
  rw [k0_pay179, n145, n147, n148, n149, n171, n175, n176, n177] <;> rfl

theorem n180 :
    k0_pay180 (F := F) x0 x1 x2 =
      top (st1 (mk0 (bhalf x2 x0) (phalf x2 x0))) := by
  rw [k0_pay180, n145, n147, n148, n149, n171, n175, n176, n177] <;> rfl

theorem n181 :
    k0_pay181 (F := F) x0 x1 x2 =
      pick (st1 (mk0 (bhalf x2 x0) (phalf x2 x0))) := by
  rw [k0_pay181, n145, n147, n148, n149, n171, n175, n176, n177] <;> rfl

theorem n182 :
    k0_pay182 (F := F) x0 x1 x2 =
      top (st2 (mk0 (bhalf x2 x0) (phalf x2 x0))) := by
  rw [k0_pay182, n149, n179, n181] <;> rfl

theorem n183 :
    k0_pay183 (F := F) x0 x1 x2 =
      top (st3 (mk0 (bhalf x2 x0) (phalf x2 x0))) := by
  rw [k0_pay183, n149, n179, n181] <;> rfl

theorem n184 :
    k0_pay184 (F := F) x0 x1 x2 =
      st4 (mk0 (bhalf x2 x0) (phalf x2 x0)) := by
  rw [k0_pay184, n149, n179, n181] <;> rfl

theorem n185 :
    k0_pay185 (F := F) x0 x1 x2 =
      top (st4 (mk0 (bhalf x2 x0) (phalf x2 x0))) := by
  rw [k0_pay185, n149, n179, n181] <;> rfl

theorem n186 :
    k0_pay186 (F := F) x0 x1 x2 =
      cmpf .oeq (broadcastTo S64x1024 lanesF broadcasts_S64x1_S64x1024) (broadcastTo S64x1024 (pick (st4 (mk0 (bhalf x2 x0) (phalf x2 x0)))) broadcasts_S1x1024_S64x1024) := by
  rw [k0_pay186, n149, n179, n181] <;> rfl

end Cert.Proof

end
-- ==== Proof.SecondHalf.lean ====
/- The values of the second half of a grid point, each named node as a term over the sort's and the
   rounds' vectors: one equation a node, from those of the nodes it reads. -/
module

public import proofs.«01_k».proof.Proof.FirstHalf

@[expose] public section

noncomputable section

namespace Cert.Proof

open Idealize.ShloMosaic Idealize.SL.Sem Cert.KernelIdeal Cert.KernelIdeal.Gen

variable {F : FTy → Type} [FloatOps F]
variable (x0 x1 : Vec F S1024x2048 .f32) (x2 : Vec F S2048x128 .f32)

theorem n187 :
    k0_pay187 (F := F) x0 x1 x2 =
      lanes := by
  rw [k0_pay187] <;> rfl

theorem n188 :
    k0_pay188 (F := F) x0 x1 x2 =
      bhalf x2 x1 := by
  rw [k0_pay188, n146] <;> rfl

theorem n189 :
    k0_pay189 (F := F) x0 x1 x2 =
      phalf x2 x1 := by
  rw [k0_pay189, n146] <;> rfl

theorem n190 :
    k0_pay190 (F := F) x0 x1 x2 =
      lanesF := by
  rw [k0_pay190] <;> rfl

theorem n191 :
    k0_pay191 (F := F) x0 x1 x2 =
      bit 2#32 := by
  rw [k0_pay191] <;> rfl

theorem n192 :
    k0_pay192 (F := F) x0 x1 x2 =
      part1 (bhalf x2 x1) := by
  rw [k0_pay192, n146] <;> rfl

theorem n193 :
    k0_pay193 (F := F) x0 x1 x2 =
      bit 4#32 := by
  rw [k0_pay193, n187] <;> rfl

theorem n194 :
    k0_pay194 (F := F) x0 x1 x2 =
      s2 (bhalf x2 x1) := by
  rw [k0_pay194, n187, n188, n191, n192] <;> rfl

theorem n195 :
    k0_pay195 (F := F) x0 x1 x2 =
      bit 1#32 := by
  rw [k0_pay195, n187] <;> rfl

theorem n196 :
    k0_pay196 (F := F) x0 x1 x2 =
      concatenate S64x1024 0 [⟨S63x1024, (extractStridedSlice S63x1024 ![1, 0] (s2 (bhalf x2 x1)) slices_S64x1024_o1_0_S63x1024)⟩, ⟨S1x1024, (extractStridedSlice S1x1024 ![0, 0] (s2 (bhalf x2 x1)) slices_S64x1024_o0_0_S1x1024)⟩] concatenates_S63x1024_S1x1024_S64x1024_d0 := by
  rw [k0_pay196, n187, n188, n191, n192] <;> rfl

theorem n197 :
    k0_pay197 (F := F) x0 x1 x2 =
      extractStridedSlice S1x1024 ![63, 0] (s2 (bhalf x2 x1)) slices_S64x1024_o63_0_S1x1024 := by
  rw [k0_pay197, n187, n188, n191, n192] <;> rfl

theorem n198 :
    k0_pay198 (F := F) x0 x1 x2 =
      extractStridedSlice S63x1024 ![0, 0] (s2 (bhalf x2 x1)) slices_S64x1024_o0_0_S63x1024 := by
  rw [k0_pay198, n187, n188, n191, n192] <;> rfl

theorem n199 :
    k0_pay199 (F := F) x0 x1 x2 =
      bit 8#32 := by
  rw [k0_pay199, n187] <;> rfl

theorem n200 :
    k0_pay200 (F := F) x0 x1 x2 =
      s4 (bhalf x2 x1) := by
  rw [k0_pay200, n187, n193, n194, n195, n196, n197, n198] <;> rfl

theorem n201 :
    k0_pay201 (F := F) x0 x1 x2 =
      bit 2#32 := by
  rw [k0_pay201, n187] <;> rfl

theorem n202 :
    k0_pay202 (F := F) x0 x1 x2 =
      extractStridedSlice S62x1024 ![2, 0] (s4 (bhalf x2 x1)) slices_S64x1024_o2_0_S62x1024 := by
  rw [k0_pay202, n187, n193, n194, n195, n196, n197, n198] <;> rfl

theorem n203 :
    k0_pay203 (F := F) x0 x1 x2 =
      s6 (bhalf x2 x1) := by
  rw [k0_pay203, n187, n199, n200, n201, n202] <;> rfl

theorem n204 :
    k0_pay204 (F := F) x0 x1 x2 =
      bit 16#32 := by
  rw [k0_pay204, n187] <;> rfl

theorem n205 :
    k0_pay205 (F := F) x0 x1 x2 =
      extractStridedSlice S8x1024 ![8, 0] (s6 (bhalf x2 x1)) slices_S64x1024_o8_0_S8x1024 := by
  rw [k0_pay205, n187, n199, n200, n201, n202] <;> rfl

theorem n206 :
    k0_pay206 (F := F) x0 x1 x2 =
      extractStridedSlice S8x1024 ![0, 0] (s6 (bhalf x2 x1)) slices_S64x1024_o0_0_S8x1024 := by
  rw [k0_pay206, n187, n199, n200, n201, n202] <;> rfl

theorem n207 :
    k0_pay207 (F := F) x0 x1 x2 =
      extractStridedSlice S8x1024 ![24, 0] (s6 (bhalf x2 x1)) slices_S64x1024_o24_0_S8x1024 := by
  rw [k0_pay207, n187, n199, n200, n201, n202] <;> rfl

theorem n208 :
    k0_pay208 (F := F) x0 x1 x2 =
      s8 (bhalf x2 x1) := by
  rw [k0_pay208, n187, n203, n204, n205, n206, n207] <;> rfl

theorem n209 :
    k0_pay209 (F := F) x0 x1 x2 =
      bit 2#32 := by
  rw [k0_pay209, n187] <;> rfl

theorem n210 :
    k0_pay210 (F := F) x0 x1 x2 =
      concatenate S64x1024 0 [⟨S62x1024, (extractStridedSlice S62x1024 ![2, 0] (s8 (bhalf x2 x1)) slices_S64x1024_o2_0_S62x1024)⟩, ⟨S2x1024, (extractStridedSlice S2x1024 ![0, 0] (s8 (bhalf x2 x1)) slices_S64x1024_o0_0_S2x1024)⟩] concatenates_S62x1024_S2x1024_S64x1024_d0 := by
  rw [k0_pay210, n187, n203, n204, n205, n206, n207] <;> rfl

theorem n211 :
    k0_pay211 (F := F) x0 x1 x2 =
      extractStridedSlice S2x1024 ![62, 0] (s8 (bhalf x2 x1)) slices_S64x1024_o62_0_S2x1024 := by
  rw [k0_pay211, n187, n203, n204, n205, n206, n207] <;> rfl

theorem n212 :
    k0_pay212 (F := F) x0 x1 x2 =
      extractStridedSlice S62x1024 ![0, 0] (s8 (bhalf x2 x1)) slices_S64x1024_o0_0_S62x1024 := by
  rw [k0_pay212, n187, n203, n204, n205, n206, n207] <;> rfl

theorem n213 :
    k0_pay213 (F := F) x0 x1 x2 =
      s10 (bhalf x2 x1) := by
  rw [k0_pay213, n187, n204, n208, n209, n210, n211, n212] <;> rfl

theorem n214 :
    k0_pay214 (F := F) x0 x1 x2 =
      bit 32#32 := by
  rw [k0_pay214, n187] <;> rfl

theorem n215 :
    k0_pay215 (F := F) x0 x1 x2 =
      part16 (s10 (bhalf x2 x1)) := by
  rw [k0_pay215, n187, n204, n208, n209, n210, n211, n212] <;> rfl

theorem n216 :
    k0_pay216 (F := F) x0 x1 x2 =
      broadcast S64x1 16#32 := by
  rw [k0_pay216] <;> rfl

theorem n217 :
    k0_pay217 (F := F) x0 x1 x2 =
      s12 (bhalf x2 x1) := by
  rw [k0_pay217, n187, n213, n214, n215, n216] <;> rfl

theorem n218 :
    k0_pay218 (F := F) x0 x1 x2 =
      part4 (s12 (bhalf x2 x1)) := by
  rw [k0_pay218, n187, n213, n214, n215, n216] <;> rfl

theorem n219 :
    k0_pay219 (F := F) x0 x1 x2 =
      xori (xori (bit 32#32) (bit 4#32)) (constantI S64x1 1 1#1) := by
  rw [k0_pay219, n187, n214] <;> rfl

theorem n220 :
    k0_pay220 (F := F) x0 x1 x2 =
      minimumf (s12 (bhalf x2 x1)) (part4 (s12 (bhalf x2 x1))) := by
  rw [k0_pay220, n187, n213, n214, n215, n216] <;> rfl

theorem n221 :
    k0_pay221 (F := F) x0 x1 x2 =
      minimumf (s14 (bhalf x2 x1)) (part1 (s14 (bhalf x2 x1))) := by
  rw [k0_pay221, n187, n214, n217, n218, n219, n220] <;> rfl

theorem n222 :
    k0_pay222 (F := F) x0 x1 x2 =
      maximumf (s14 (bhalf x2 x1)) (part1 (s14 (bhalf x2 x1))) := by
  rw [k0_pay222, n187, n214, n217, n218, n219, n220] <;> rfl

theorem n223 :
    k0_pay223 (F := F) x0 x1 x2 =
      shapeCast S64x1 (xori (xori (bit 32#32) (bit 1#32)) (constantI S64x1 1 1#1)) shapeCasts_S64x1_S64x1 := by
  rw [k0_pay223, n187, n214] <;> rfl

theorem n224 :
    k0_pay224 (F := F) x0 x1 x2 =
      bit 0#32 := by
  rw [k0_pay224, n187] <;> rfl

theorem n225 :
    k0_pay225 (F := F) x0 x1 x2 =
      s17 (bhalf x2 x1) := by
  rw [k0_pay225, n187, n221, n222, n223] <;> rfl

theorem n226 :
    k0_pay226 (F := F) x0 x1 x2 =
      part8 (s17 (bhalf x2 x1)) := by
  rw [k0_pay226, n187, n221, n222, n223] <;> rfl

theorem n227 :
    k0_pay227 (F := F) x0 x1 x2 =
      xori (bit 0#32) (bit 8#32) := by
  rw [k0_pay227, n187] <;> rfl

theorem n228 :
    k0_pay228 (F := F) x0 x1 x2 =
      s19 (bhalf x2 x1) := by
  rw [k0_pay228, n187, n224, n225, n226, n227] <;> rfl

theorem n229 :
    k0_pay229 (F := F) x0 x1 x2 =
      part2 (s19 (bhalf x2 x1)) := by
  rw [k0_pay229, n187, n224, n225, n226, n227] <;> rfl

theorem n230 :
    k0_pay230 (F := F) x0 x1 x2 =
      xori (xori (bit 0#32) (bit 2#32)) (constantI S64x1 1 1#1) := by
  rw [k0_pay230, n187, n224] <;> rfl

theorem n231 :
    k0_pay231 (F := F) x0 x1 x2 =
      st1 (mk0 (bhalf x2 x1) (phalf x2 x1)) := by
  rw [k0_pay231, n187, n188, n189, n190, n224, n228, n229, n230] <;> rfl

theorem n232 :
    k0_pay232 (F := F) x0 x1 x2 =
      st4 (mk0 (bhalf x2 x1) (phalf x2 x1)) := by
  rw [k0_pay232, n190, n231] <;> rfl

theorem n233 :
    k0_pay233 (F := F) x0 x1 x2 =
      broadcastTo S64x1024 (top (st4 (mk0 (bhalf x2 x1) (phalf x2 x1)))) broadcasts_S1x1024_S64x1024 := by
  rw [k0_pay233, n190, n231] <;> rfl

end Cert.Proof

end
-- ==== Proof.Outs.lean ====
/- What a grid point leaves in each output's buffer: two halves of its rows, each the half's transposed vectors. -/
module

public import proofs.«01_k».proof.Proof.SecondHalf

@[expose] public section

noncomputable section

namespace Cert.Proof

open Idealize.ShloMosaic Idealize.SL.Sem Cert.KernelIdeal Cert.KernelIdeal.Gen

variable {F : FTy → Type} [FloatOps F]
variable (x0 x1 : Vec F S1024x2048 .f32) (x2 : Vec F S2048x128 .f32)

/-- The masked probabilities of a half's rows. -/
def mhalf (w : Vec F S2048x128 .f32) (x : Vec F S1024x2048 .f32) : FVec F S64x1024 .f32 := mk0 (bhalf w x) (phalf w x)

/-- The first output's buffer: the probabilities of both halves. -/
theorem out3_eq : out0_3 x0 x1 x2 = View.canon [⟨r0_4, probsT (phalf x2 x1)⟩, ⟨r0_2, probsT (phalf x2 x0)⟩] := by
  rw [out0_3, n189, n148] <;> rfl

/-- The second output's buffer: the eight normalised probabilities of both halves. -/
theorem out4_eq : out0_4 x0 x1 x2 = View.canon [⟨r0_5, valsT (mhalf x2 x1)⟩, ⟨r0_3, valsT (mhalf x2 x0)⟩] := by
  rw [out0_4, n188, n189, n187, n224, n228, n229, n230, n231, n190, n232, n233, n149, n178, n180, n182, n183,
    n184, n185, n186] <;> rfl

/-- The third output's buffer: the eight chosen experts of both halves. -/
theorem out5_eq : out0_5 x0 x1 x2 = View.canon [⟨r0_5, idxT (mhalf x2 x1)⟩, ⟨r0_3, idxT (mhalf x2 x0)⟩] := by
  rw [out0_5, n188, n189, n187, n190, n224, n228, n229, n230, n231, n232, n233, n149, n147, n148, n145, n171, n175,
    n176, n177, n181, n179, n184, n186] <;> rfl

end Cert.Proof

end
-- ==== Proof.KernelRead.lean ====
/- The kernel's three arrays after the run, as functions of the array of rows and the array of weights it reads. -/
module

public import proofs.«01_k».proof.Proof.Outs
public import proofs.«01_k».proof.Proof.Gen.KernelIdeal.Value
public import Idealize.ShloMosaic.Lib.Pointwise
public import Idealize.ShloMosaic.Lib.Pipeline.ValueKit
public import Idealize.ShloMosaic.Lib.Claim

@[expose] public section

noncomputable section

namespace Cert.Proof

open Idealize.ShloMosaic Idealize.ShloMosaic.TcCoe Idealize.SL.Sem Cert.KernelIdeal Cert.KernelIdeal.Gen

/-! ## A buffer made of two halves -/

/-- Rows 0 to 1023 from `u`, rows 1024 to 2047 from `v`. -/
def halves {α : Type} {n : ℕ} (u v : (⟨2, ![1024, n]⟩ : Shape).Idx → α) (y : (⟨2, ![2048, n]⟩ : Shape).Idx) : α :=
  if h : (y 0).val < 1024 then u (ix2 ⟨(y 0).val, h⟩ (y 1))
  else v (ix2 ⟨(y 0).val - 1024, by have := (y 0).isLt; change (y 0).val < 2048 at this; omega⟩ (y 1))

/-- An upper row is read from `u`. -/
theorem halves_fst {α : Type} {n : ℕ} (u v : (⟨2, ![1024, n]⟩ : Shape).Idx → α) (y : (⟨2, ![2048, n]⟩ : Shape).Idx)
    (x : (⟨2, ![1024, n]⟩ : Shape).Idx) (h0 : (y 0).val = (x 0).val) (h1 : (y 1).val = (x 1).val) : halves u v y = u x := by
  have h : (y 0).val < 1024 := h0 ▸ (x 0).isLt
  unfold halves
  rw [dif_pos h]
  refine congrArg u (funext fun a => ?_)
  match a with
  | ⟨0, _⟩ => exact Fin.ext h0
  | ⟨1, _⟩ => exact Fin.ext h1

/-- A lower row is read from `v`. -/
theorem halves_snd {α : Type} {n : ℕ} (u v : (⟨2, ![1024, n]⟩ : Shape).Idx → α) (y : (⟨2, ![2048, n]⟩ : Shape).Idx)
    (x : (⟨2, ![1024, n]⟩ : Shape).Idx) (h0 : (y 0).val = 1024 + (x 0).val) (h1 : (y 1).val = (x 1).val) : halves u v y = v x := by
  unfold halves
  rw [dif_neg (by omega)]
  refine congrArg v (funext fun a => ?_)
  match a with
  | ⟨0, _⟩ => exact Fin.ext (show (y 0).val - 1024 = (x 0).val by omega)
  | ⟨1, _⟩ => exact Fin.ext h1

section
variable {n r : ℕ} (inb : ∀ a, (![r, 0] : Fin 2 → ℕ) a + (⟨2, ![1024, n]⟩ : Shape).size a ≤ (⟨2, ![2048, n]⟩ : Shape).size a)

/-- Row `x` of a half that starts at row `r` is row `r + x` of the buffer. -/
theorem emb_row (x : (⟨2, ![1024, n]⟩ : Shape).Idx) :
    ((Rect.unit (s := ⟨2, ![2048, n]⟩) ![r, 0] (⟨2, ![1024, n]⟩ : Shape).size inb).emb x 0).val = r + (x 0).val := by
  show r + 1 * (x 0).val = _
  omega

/-- The column stays. -/
theorem emb_col (x : (⟨2, ![1024, n]⟩ : Shape).Idx) :
    ((Rect.unit (s := ⟨2, ![2048, n]⟩) ![r, 0] (⟨2, ![1024, n]⟩ : Shape).size inb).emb x 1).val = (x 1).val := by
  show 0 + 1 * (x 1).val = _
  omega

/-- The 1024 rows from `r` on are that half. -/
theorem mem_rows (y : (⟨2, ![2048, n]⟩ : Shape).Idx) (h0 : r ≤ (y 0).val) (h1 : (y 0).val < r + 1024) :
    y ∈ (Rect.unit (s := ⟨2, ![2048, n]⟩) ![r, 0] (⟨2, ![1024, n]⟩ : Shape).size inb).set :=
  Rect.mem_set_unit.2 fun a => match a with
    | ⟨0, _⟩ => ⟨h0, h1⟩
    | ⟨1, _⟩ => ⟨Nat.zero_le _, lt_of_lt_of_eq (y 1).isLt (Nat.zero_add n).symm⟩

end

/-- The two stores of probabilities leave the two halves. -/
theorem canon64 (u v : Vec Ideal S1024x64 .f32) (y : S2048x64.Idx) :
    View.canon (Val := Elt Ideal) (s := S2048x64) (e := .f32) [⟨r0_4, v⟩, ⟨r0_2, u⟩] y = halves u v y := by
  refine View.canon_apply_of_pieces (halves u v) _ (fun p hp x => ?_) y ?_
  · simp only [List.mem_cons, List.not_mem_nil, or_false] at hp
    rcases hp with rfl | rfl
    · exact (halves_snd u v _ x (emb_row inb_S2048x64_S1024x64_1024_0 x) (emb_col inb_S2048x64_S1024x64_1024_0 x)).symm
    · exact (halves_fst u v _ x ((emb_row inb_S2048x64_S1024x64_0_0 x).trans (Nat.zero_add _)) (emb_col inb_S2048x64_S1024x64_0_0 x)).symm
  · by_cases h : (y 0).val < 1024
    · exact ⟨⟨r0_2, u⟩, List.mem_cons_of_mem _ (List.mem_singleton.2 rfl),
        mem_rows inb_S2048x64_S1024x64_0_0 y (Nat.zero_le _) (by omega)⟩
    · exact ⟨⟨r0_4, v⟩, List.mem_cons_self, mem_rows inb_S2048x64_S1024x64_1024_0 y (not_lt.1 h) (y 0).isLt⟩

/-- The two stores of values leave the two halves. -/
theorem canon8 (u v : Vec Ideal S1024x8 .f32) (y : S2048x8.Idx) :
    View.canon (Val := Elt Ideal) (s := S2048x8) (e := .f32) [⟨r0_5, v⟩, ⟨r0_3, u⟩] y = halves u v y := by
  refine View.canon_apply_of_pieces (halves u v) _ (fun p hp x => ?_) y ?_
  · simp only [List.mem_cons, List.not_mem_nil, or_false] at hp
    rcases hp with rfl | rfl
    · exact (halves_snd u v _ x (emb_row inb_S2048x8_S1024x8_1024_0 x) (emb_col inb_S2048x8_S1024x8_1024_0 x)).symm
    · exact (halves_fst u v _ x ((emb_row inb_S2048x8_S1024x8_0_0 x).trans (Nat.zero_add _)) (emb_col inb_S2048x8_S1024x8_0_0 x)).symm
  · by_cases h : (y 0).val < 1024
    · exact ⟨⟨r0_3, u⟩, List.mem_cons_of_mem _ (List.mem_singleton.2 rfl),
        mem_rows inb_S2048x8_S1024x8_0_0 y (Nat.zero_le _) (by omega)⟩
    · exact ⟨⟨r0_5, v⟩, List.mem_cons_self, mem_rows inb_S2048x8_S1024x8_1024_0 y (not_lt.1 h) (y 0).isLt⟩

/-- The two stores of indices leave the two halves. -/
theorem canon8i (u v : Vec Ideal S1024x8 .i32) (y : S2048x8.Idx) :
    View.canon (Val := Elt Ideal) (s := S2048x8) (e := .i32) [⟨r0_5, v⟩, ⟨r0_3, u⟩] y = halves u v y := by
  refine View.canon_apply_of_pieces (halves u v) _ (fun p hp x => ?_) y ?_
  · simp only [List.mem_cons, List.not_mem_nil, or_false] at hp
    rcases hp with rfl | rfl
    · exact (halves_snd u v _ x (emb_row inb_S2048x8_S1024x8_1024_0 x) (emb_col inb_S2048x8_S1024x8_1024_0 x)).symm
    · exact (halves_fst u v _ x ((emb_row inb_S2048x8_S1024x8_0_0 x).trans (Nat.zero_add _)) (emb_col inb_S2048x8_S1024x8_0_0 x)).symm
  · by_cases h : (y 0).val < 1024
    · exact ⟨⟨r0_3, u⟩, List.mem_cons_of_mem _ (List.mem_singleton.2 rfl),
        mem_rows inb_S2048x8_S1024x8_0_0 y (Nat.zero_le _) (by omega)⟩
    · exact ⟨⟨r0_5, v⟩, List.mem_cons_self, mem_rows inb_S2048x8_S1024x8_1024_0 y (not_lt.1 h) (y 0).isLt⟩

variable (m : (ℓ : Loc nD τ sig) → Buf (Elt Ideal) ℓ) (c : Dev nD)

/-- The 1024 rows of block `n`. -/
def xblk (A : Vec Ideal S16384x2048 .f32) (n : Fin 16) : Vec Ideal S1024x2048 .f32 :=
  fun j => A (ix2 ⟨n.val * 1024 + (j 0).val, by have := (j 0).isLt; change (j 0).val < 1024 at this; omega⟩ (j 1))

/-- Window 0 is at block `2 t` of the tokens. -/
theorem index0 : ∀ t : Fin cfg0.N, win0_0.index t = ![2 * t.val, 0] :=
  (by decide +kernel : ∀ t : Fin grid0.N, win0_0.index t = ![2 * t.val, 0])

/-- Window 1 is at block `2 t + 1` of the tokens. -/
theorem index1 : ∀ t : Fin cfg0.N, win0_1.index t = ![2 * t.val + 1, 0] :=
  (by decide +kernel : ∀ t : Fin grid0.N, win0_1.index t = ![2 * t.val + 1, 0])

/-- Window 0's block at point `t`. -/
theorem iblk0 (t : Fin cfg0.N) : iblk m c 0 t = xblk (V m c main_v0) ⟨2 * t.val, by have : t.val < 8 := t.isLt; omega⟩ := by
  funext j
  unfold xblk
  blk_simp [iblk]
  refine congrArg _ (funext fun a => ?_)
  match a with
  | ⟨0, _⟩ =>
    apply Fin.ext
    blk_simp [index0]
    rfl
  | ⟨1, _⟩ =>
    apply Fin.ext
    blk_simp [index0]
    rfl

/-- Window 1's block at point `t`. -/
theorem iblk1 (t : Fin cfg0.N) : iblk m c 1 t = xblk (V m c main_v0) ⟨2 * t.val + 1, by have : t.val < 8 := t.isLt; omega⟩ := by
  funext j
  unfold xblk
  blk_simp [iblk]
  refine congrArg _ (funext fun a => ?_)
  match a with
  | ⟨0, _⟩ =>
    apply Fin.ext
    blk_simp [index1]
    rfl
  | ⟨1, _⟩ =>
    apply Fin.ext
    blk_simp [index1]
    rfl

/-- Window 2 stays at the weights. -/
theorem index2 : ∀ t : Fin cfg0.N, win0_2.index t = ![0, 0] :=
  (by decide +kernel : ∀ t : Fin grid0.N, win0_2.index t = ![0, 0])

/-- Window 2's block is the whole array of weights. -/
theorem iblk2 (t : Fin cfg0.N) : iblk m c 2 t = V m c main_v2 := by
  funext j
  blk_simp [iblk]
  refine congrArg _ (funext fun a => ?_)
  match a with
  | ⟨0, _⟩ =>
    apply Fin.ext
    blk_simp [index2]
  | ⟨1, _⟩ =>
    apply Fin.ext
    blk_simp [index2]

/-! ## The arrays -/

/-- An array whose row `r` is row `r % 1024` of what `f` makes of block `r / 1024`. -/
def byBlock {α : Type} {n : ℕ} (f : Fin 16 → (⟨2, ![1024, n]⟩ : Shape).Idx → α) (i : (⟨2, ![16384, n]⟩ : Shape).Idx) : α :=
  f ⟨(i 0).val / 1024, by have := (i 0).isLt; change (i 0).val < 16384 at this; omega⟩
    (ix2 ⟨(i 0).val % 1024, Nat.mod_lt _ (by decide)⟩ (i 1))

/-- The two blocks of a grid point, as rows of such an array. -/
theorem halves_byBlock {α : Type} {n : ℕ} (f : Fin 16 → (⟨2, ![1024, n]⟩ : Shape).Idx → α) (t : ℕ) (ht : t < 8)
    (y : (⟨2, ![2048, n]⟩ : Shape).Idx) (i : (⟨2, ![16384, n]⟩ : Shape).Idx) (h0 : (i 0).val = t * 2048 + (y 0).val)
    (h1 : (i 1).val = (y 1).val) :
    halves (f ⟨2 * t, by omega⟩) (f ⟨2 * t + 1, by omega⟩) y = byBlock f i := by
  have hy : (y 0).val < 2048 := (y 0).isLt
  have e1 : i 1 = y 1 := Fin.ext h1
  have key : ∀ (a b : Fin 16) (x x' : Fin 1024), a = b → x = x' → f a (ix2 x (y 1)) = f b (ix2 x' (i 1)) := by
    rintro a _ x _ rfl rfl
    rw [e1]
  unfold halves byBlock
  split
  · exact key _ _ _ _ (Fin.ext (show 2 * t = (i 0).val / 1024 by omega)) (Fin.ext (show (y 0).val = (i 0).val % 1024 by omega))
  · exact key _ _ _ _ (Fin.ext (show 2 * t + 1 = (i 0).val / 1024 by omega))
      (Fin.ext (show (y 0).val - 1024 = (i 0).val % 1024 by omega))

/-- Window 3 is at block `t` of the probabilities. -/
theorem index3 : ∀ t : Fin cfg0.N, win0_3.index t = ![t.val, 0] :=
  (by decide +kernel : ∀ t : Fin grid0.N, win0_3.index t = ![t.val, 0])

/-- The first result. -/
theorem arr3 : (dats m 0 c).arrAt 3 cfg0.N
    = byBlock (fun n => probsT (phalf (V m c main_v2) (xblk (V m c main_v0) n))) := by
  refine (dats m 0 c).arrAt_eq_of_covers 3 _ (by decide +kernel) fun t hf y => ?_
  blk_simp
  rw [after0_3, out3_eq, canon64, iblk0, iblk1, iblk2]
  refine halves_byBlock (fun n => probsT (phalf (V m c main_v2) (xblk (V m c main_v0) n))) t.val t.isLt _ _ ?_ ?_
  · blk_simp [index3]
  · blk_simp [index3]

/-- Window 4 is at block `t` of the values. -/
theorem index4 : ∀ t : Fin cfg0.N, win0_4.index t = ![t.val, 0] :=
  (by decide +kernel : ∀ t : Fin grid0.N, win0_4.index t = ![t.val, 0])

/-- The second result. -/
theorem arr4 : (dats m 0 c).arrAt 4 cfg0.N
    = byBlock (fun n => valsT (mhalf (V m c main_v2) (xblk (V m c main_v0) n))) := by
  refine (dats m 0 c).arrAt_eq_of_covers 4 _ (by decide +kernel) fun t hf y => ?_
  blk_simp
  rw [after0_4, out4_eq, canon8, iblk0, iblk1, iblk2]
  refine halves_byBlock (fun n => valsT (mhalf (V m c main_v2) (xblk (V m c main_v0) n))) t.val t.isLt _ _ ?_ ?_
  · blk_simp [index4]
  · blk_simp [index4]

/-- Window 5 is at block `t` of the indices. -/
theorem index5 : ∀ t : Fin cfg0.N, win0_5.index t = ![t.val, 0] :=
  (by decide +kernel : ∀ t : Fin grid0.N, win0_5.index t = ![t.val, 0])

/-- The third result. -/
theorem arr5 : (dats m 0 c).arrAt 5 cfg0.N
    = byBlock (fun n => idxT (mhalf (V m c main_v2) (xblk (V m c main_v0) n))) := by
  refine (dats m 0 c).arrAt_eq_of_covers 5 _ (by decide +kernel) fun t hf y => ?_
  blk_simp
  rw [after0_5, out5_eq, canon8i, iblk0, iblk1, iblk2]
  refine halves_byBlock (fun n => idxT (mhalf (V m c main_v2) (xblk (V m c main_v0) n))) t.val t.isLt _ _ ?_ ?_
  · blk_simp [index5]
  · blk_simp [index5]

/-! ## The arrays at the region's entry -/

/-- The tokens, one row each. -/
theorem entry_rows : V m c main_v0 = shapeCast S16384x2048 (m ((c.tc : Thread nD τ).loc main_arg0)) shapeCasts_S4x4096x2048_S16384x2048 := by
  entry_read
  rfl

/-- Columns 0 to 63 of the weights are the first gate's. -/
theorem entry_first (k : Fin 2048) (e : Fin 64) :
    V m c main_v2 (ix2 k ⟨e.val, by omega⟩) = m ((c.tc : Thread nD τ).loc main_arg1) (ix2 e k) := by
  entry_read
  pointwise

/-- Columns 64 to 127 are the second gate's. -/
theorem entry_second (k : Fin 2048) (e : Fin 64) :
    V m c main_v2 (ix2 k ⟨64 + e.val, by omega⟩) = m ((c.tc : Thread nD τ).loc main_arg2) (ix2 e k) := by
  entry_read
  pointwise

end Cert.Proof

end
-- ==== Proof.OnFacts.lean ====
module

public import proofs.«01_k».proof.On_untied

@[expose] public section

namespace Cert.Proof

open Idealize.ShloMosaic Cert.On_untied

/-- The side conditions of the mask's operations hold. -/
instance maskFacts : Cert.On_untied.Facts where
  shapeCasts_S4x4096x2048_S16384x2048 := by decide
  transposes_S64x2048_S2048x64_1_0 := by decide
  reducesTo_S16384x64_S16384_d1 := by decide
  h_S_ := by decide
  bcast_S_S16384 := by decide
  bcast_S16384_S16384x1_0 := by decide
  bcast_S16384x1_S16384x64_0_1 := by decide
  sliceFits_S16384x64_S16384x32 := by decide
  bcast_S_S16384x32 := by decide
  shapeCasts_S16384x32_S16384x32x1 := by decide
  bcast_S_S16384x32x1 := by decide
  bcast_S1_S1x1x1_2 := by decide
  bcast_S1x1x1_S16384x32x1_0_1_2 := by decide
  reducesTo_S16384x32x1_S16384x32_d2 := by decide
  sliceFits_S16384x64_S16384x33 := by decide
  sliceFits_S16384x32_S16384x9 := by decide
  slices_S16384x33_S16384x1_0_31 := by decide
  slices_S16384x33_S16384x1_0_32 := by decide
  slices_S16384x9_S16384x1_0_0 := by decide
  bcast_S_S16384x1 := by decide
  slices_S16384x9_S16384x8_0_0 := by decide
  slices_S16384x9_S16384x8_0_1 := by decide
  reducesTo_S16384x8_S16384_d1 := by decide
  bcast_S_S16384x64 := by decide
  bcast_S16384x1_S16384x8_0_1 := by decide
  dot_S16384x2048_S2048x64_S16384x64_1_0_0_1_n_n_wf := by decide
  gather_S16384x64_S16384x32x1_S16384x32_n_1_0_0_1_2_11_wf := by decide

end Cert.Proof

end
-- ==== Proof.Column.lean ====
/- The mathematics of one row of the problem: the order of its scores, the set the threshold cuts out, the rounds
   that take the largest probability left, and the comparison of two such choices. -/
module

public import Idealize.ShloMosaic.Lib.SortFacts
public import Mathlib.Data.EReal.Operations
public import Idealize.ShloMosaic.Lib.Pointwise

@[expose] public section

noncomputable section

namespace Cert.Proof

open Idealize.ShloMosaic

/-! ## The order of the scores -/

/-- The position that holds the `k`-th greatest of `f`, equal ones by position. -/
@[irreducible] def order {n : Nat} (f : Fin n → EReal) : Fin n → Fin n := sortedFrom fun k k' => decide (f k' < f k)

/-- No position comes twice in the order. -/
theorem order_injective {n : Nat} (f : Fin n → EReal) : Function.Injective (order f) := by
  unfold order
  exact sortedFrom_injective _

/-- Every position comes in the order. -/
theorem order_surjective {n : Nat} (f : Fin n → EReal) : Function.Surjective (order f) := by
  unfold order
  exact sortedFrom_surjective _

/-- The scores fall along their order. -/
theorem order_anti {n : Nat} (f : Fin n → EReal) {i j : Fin n} (h : i ≤ j) : f (order f j) ≤ f (order f i) := by
  rcases h.lt_or_eq with h | rfl
  · have := sortedFrom_noInversion (fun k k' => decide (f k' < f k)) (fun k k' => decide (f k' < f k))
      (fun a b h => by simpa using le_of_lt (of_decide_eq_true h)) (fun a b h => h)
      (fun a b c h1 h2 => by
        simp only [decide_eq_false_iff_not, not_lt] at *
        exact h1.trans h2) i j h
    simpa [order] using this
  · exact le_rfl

/-! ## The set above the threshold -/

/-- Where the 32nd and the 33rd score differ, an expert's logit reaches the sorted logits' position 32 just when the
    expert is among the 32 first in the scores' order. -/
theorem reach_iff (l q : Fin 64 → EReal) (hq : ∀ e f, q e < q f → l e < l f) (s : Fin 64 → EReal) (hs : Monotone s)
    (π : Equiv.Perm (Fin 64)) (hπ : ∀ e, s e = l (π e)) (hc : q (order q 32) < q (order q 31)) (e : Fin 64) :
    s 32 ≤ l e ↔ ∃ k : Fin 64, k.val < 32 ∧ order q k = e := by
  have hsep : ∀ i j : Fin 64, i.val < 32 → ¬ j.val < 32 → l (order q j) < l (order q i) := fun i j hi hj =>
    hq _ _ (((order_anti q (i := 32) (j := j) (by rw [Fin.le_def]; simp; omega)).trans_lt hc).trans_le
      (order_anti q (i := i) (j := 31) (by rw [Fin.le_def]; simp; omega)))
  let C : Finset (Fin 64) := (Finset.univ.filter fun k : Fin 64 => k.val < 32).image (order q)
  have hC : C.card = 32 := by
    rw [Finset.card_image_of_injective _ (order_injective q)]; decide
  have memC : ∀ e, e ∈ C ↔ ∃ k : Fin 64, k.val < 32 ∧ order q k = e := by intro e; simp [C]
  have sep : ∀ a b, a ∈ C → b ∉ C → l b < l a := by
    intro a b ha hb
    obtain ⟨i, hi, rfl⟩ := (memC a).1 ha
    obtain ⟨j, rfl⟩ := order_surjective q b
    exact hsep i j hi fun hj => hb ((memC _).2 ⟨j, hj, rfl⟩)
  rw [← memC]
  constructor
  · intro he
    by_contra hn
    let D : Finset (Fin 64) := (Finset.univ.filter fun k : Fin 64 => 32 < k.val).image π
    have hD : D.card = 31 := by rw [Finset.card_image_of_injective _ π.injective]; decide
    obtain ⟨a, haC, haD⟩ := Finset.exists_mem_notMem_of_card_lt_card (s := D) (t := C) (by omega)
    obtain ⟨i, rfl⟩ := π.surjective a
    have hi : i ≤ 32 := by
      by_contra hi
      exact haD (Finset.mem_image.2 ⟨i, by rw [not_le, Fin.lt_def] at hi; simpa using hi, rfl⟩)
    have h1 := sep _ _ haC hn
    rw [← hπ] at h1
    exact absurd (h1.trans_le (hs hi)) (not_lt.2 he)
  · intro he
    by_contra hn
    rw [not_le] at hn
    let D : Finset (Fin 64) := (Finset.univ.filter fun k : Fin 64 => 32 ≤ k.val).image π
    have hD : D.card = 32 := by rw [Finset.card_image_of_injective _ π.injective]; decide
    have hDl : ∀ a ∈ D, s 32 ≤ l a := by
      intro a ha
      obtain ⟨i, hi, rfl⟩ := Finset.mem_image.1 ha
      rw [← hπ]
      exact hs (by rw [Fin.le_def]; simpa using hi)
    have hsub : ∃ a ∈ D, a ∉ C := by
      by_contra hno
      push Not at hno
      have : D = C := Finset.eq_of_subset_of_card_le hno (by omega)
      exact absurd (hDl e (this ▸ he)) (not_le.2 hn)
    obtain ⟨a, haD, haC⟩ := hsub
    exact absurd ((sep e a he haC).trans hn) (not_lt.2 (hDl a haD))

/-! ## Choosing the largest left, again and again -/

/-- `g 0, …, g (n − 1)` are different members of `C`, each with the largest `p` among the members not yet taken. -/
structure Greedy (C : Fin 64 → Prop) (p : Fin 64 → EReal) (n : Nat) (g : Nat → Fin 64) : Prop where
  mem : ∀ j < n, C (g j)
  ne : ∀ i j, i < j → j < n → g i ≠ g j
  le : ∀ j < n, ∀ e, C e → (∀ i < j, g i ≠ e) → p e ≤ p (g j)

variable {C : Fin 64 → Prop} {p : Fin 64 → EReal} {n : Nat} {g r : Nat → Fin 64}

/-- The values of such a choice do not rise. -/
theorem Greedy.anti (h : Greedy C p n r) {i j : Nat} (hij : i ≤ j) (hj : j < n) : p (r j) ≤ p (r i) :=
  h.le i (by omega) _ (h.mem j hj) fun k hk => h.ne k j (by omega) hj

/-- The `j`-th value of one choice is at most that of any other from the same members. -/
theorem Greedy.le_of (hg : Greedy C p n g) (hr : Greedy C p n r) {j : Nat} (hj : j < n) : p (r j) ≤ p (g j) := by
  have : ∃ i ≤ j, ∀ k < j, g k ≠ r i := by
    by_contra hno
    push Not at hno
    let A : Finset (Fin 64) := (Finset.range (j + 1)).image r
    let B : Finset (Fin 64) := (Finset.range j).image g
    have hA : A.card = j + 1 := by
      rw [Finset.card_image_of_injOn, Finset.card_range]
      intro a ha b hb hab
      simp only [Finset.coe_range, Set.mem_Iio] at ha hb
      rcases lt_trichotomy a b with h | h | h
      · exact absurd hab (hr.ne a b h (by omega))
      · exact h
      · exact absurd hab.symm (hr.ne b a h (by omega))
    have hB : B.card ≤ j := (Finset.card_image_le).trans (by simp)
    have hAB : A ⊆ B := by
      intro a ha
      obtain ⟨i, hi, rfl⟩ := Finset.mem_image.1 ha
      obtain ⟨k, hk, e⟩ := hno i (by simpa [Nat.lt_succ_iff] using hi)
      exact Finset.mem_image.2 ⟨k, by simpa using hk, e⟩
    have := Finset.card_le_card hAB
    omega
  obtain ⟨i, hi, hk⟩ := this
  exact (hr.anti hi hj).trans (hg.le j hj _ (hr.mem i (by omega)) hk)

/-- Two such choices take the same values. -/
theorem Greedy.val_eq (hg : Greedy C p n g) (hr : Greedy C p n r) {j : Nat} (hj : j < n) : p (g j) = p (r j) :=
  le_antisymm (hr.le_of hg hj) (hg.le_of hr hj)

/-- The first `m` members of a choice are a choice. -/
theorem Greedy.mono {m : Nat} (h : Greedy C p n r) (hm : m ≤ n) : Greedy C p m r :=
  ⟨fun j hj => h.mem j (by omega), fun i j hij hj => h.ne i j hij (by omega), fun j hj => h.le j (by omega)⟩

/-- Where the values fall strictly, two such choices are the same. -/
theorem Greedy.eq (hg : Greedy C p n g) (hr : Greedy C p (n + 1) r) (hs : ∀ j < n, p (r (j + 1)) < p (r j)) {j : Nat}
    (hj : j < n) : g j = r j := by
  have hlt : ∀ a b, a < b → b ≤ n → p (r b) < p (r a) := fun a b hab hb =>
    (hr.anti (i := a + 1) (j := b) hab (by omega)).trans_lt (hs a (by omega))
  have hv := hg.val_eq (hr.mono (Nat.le_succ n)) hj
  have : ∃ i ≤ j, r i = g j := by
    by_contra hno
    push Not at hno
    have := hr.le (j + 1) (by omega) (g j) (hg.mem j hj) fun i hi => hno i (by omega)
    rw [hv] at this
    exact absurd (hs j hj) (not_lt.2 this)
  obtain ⟨i, hi, e⟩ := this
  rcases Nat.lt_or_ge i j with h | h
  · have := hlt i j h (by omega)
    rw [e, hv] at this
    exact absurd this (lt_irrefl _)
  · rw [← e, le_antisymm hi h]

/-! ## The rounds -/

/-- Some expert holds the largest entry. -/
theorem exists_top (m : Fin 64 → EReal) : (Finset.univ.filter fun e => m e = Finset.univ.sup m).Nonempty := by
  obtain ⟨e, -, h⟩ := Finset.exists_mem_eq_sup Finset.univ ⟨0, Finset.mem_univ _⟩ m
  exact ⟨e, by simp [h]⟩

/-- The first expert that holds the largest entry. -/
def gpick (m : Fin 64 → EReal) : Fin 64 := (Finset.univ.filter fun e => m e = Finset.univ.sup m).min' (exists_top m)

/-- The expert taken holds the largest entry. -/
theorem gpick_eq (m : Fin 64 → EReal) : m (gpick m) = Finset.univ.sup m := by
  have := Finset.min'_mem _ (exists_top m)
  exact (Finset.mem_filter.1 this).2

/-- It comes before every other that holds the largest entry. -/
theorem gpick_le (m : Fin 64 → EReal) (e : Fin 64) (h : m e = Finset.univ.sup m) : gpick m ≤ e :=
  Finset.min'_le _ _ (by simp [h])

/-- That expert's entry replaced by −2. -/
def gstrike (m : Fin 64 → EReal) : Fin 64 → EReal := fun e => if e = gpick m then -2 else m e

/-- The entries after `k` rounds. -/
def rnd (m : Fin 64 → EReal) : Nat → Fin 64 → EReal
  | 0 => m
  | k + 1 => gstrike (rnd m k)

/-- The probabilities of the members, −1 elsewhere. -/
def start (C : Fin 64 → Prop) [DecidablePred C] (p : Fin 64 → EReal) : Fin 64 → EReal := fun e => if C e then p e else -1

/-- The entry of those outside lies below every probability. -/
theorem neg_one_lt : (-1 : EReal) < 0 := by simp

/-- So does the entry of those taken. -/
theorem neg_two_lt : (-2 : EReal) < 0 := by simp

/-- After `k` rounds the experts chosen hold −2 and the others what they held. -/
theorem rnd_apply (m : Fin 64 → EReal) (k : Nat) (e : Fin 64) :
    rnd m k e = if ∃ j < k, gpick (rnd m j) = e then -2 else m e := by
  induction k with
  | zero => simp [rnd]
  | succ k ih =>
    rw [rnd, gstrike]
    by_cases h : e = gpick (rnd m k)
    · rw [if_pos h, if_pos ⟨k, by omega, h.symm⟩]
    · rw [if_neg h, ih]
      have : (∃ j < k, gpick (rnd m j) = e) ↔ ∃ j < k + 1, gpick (rnd m j) = e := by
        constructor
        · rintro ⟨j, hj, e⟩; exact ⟨j, by omega, e⟩
        · rintro ⟨j, hj, e'⟩
          refine ⟨j, ?_, e'⟩
          by_contra hk
          have : j = k := by omega
          subst this; exact h e'.symm
      simp only [this]

/-- The rounds choose greedily among the members, and each round's largest entry is its choice's probability. -/
theorem rounds_greedy [DecidablePred C] (hp : ∀ e, C e → 0 ≤ p e) (n : Nat)
    (hn : n ≤ (Finset.univ.filter fun e => C e).card) :
    Greedy C p n (fun j => gpick (rnd (start C p) j)) ∧
      ∀ j < n, Finset.univ.sup (rnd (start C p) j) = p (gpick (rnd (start C p) j)) := by
  have key : ∀ j < n, C (gpick (rnd (start C p) j)) ∧ (∀ i < j, gpick (rnd (start C p) i) ≠ gpick (rnd (start C p) j)) ∧
      Finset.univ.sup (rnd (start C p) j) = p (gpick (rnd (start C p) j)) := by
    intro j hj
    have hfree : ∃ e, C e ∧ ∀ i < j, gpick (rnd (start C p) i) ≠ e := by
      by_contra hno
      push Not at hno
      have hsub : (Finset.univ.filter fun e => C e) ⊆ (Finset.range j).image fun i => gpick (rnd (start C p) i) := by
        intro e he
        obtain ⟨i, hi, h⟩ := hno e (Finset.mem_filter.1 he).2
        exact Finset.mem_image.2 ⟨i, by simpa using hi, h⟩
      have h1 := Finset.card_le_card hsub
      have h2 := Finset.card_image_le (s := Finset.range j) (f := fun i => gpick (rnd (start C p) i))
      rw [Finset.card_range] at h2
      omega
    obtain ⟨e, he, hi⟩ := hfree
    have hv : rnd (start C p) j e = p e := by
      rw [rnd_apply, if_neg (by push Not; exact hi), start, if_pos he]
    have hsup : 0 ≤ Finset.univ.sup (rnd (start C p) j) :=
      (hp e he).trans (hv ▸ Finset.le_sup (f := rnd (start C p) j) (Finset.mem_univ e))
    have hg := gpick_eq (rnd (start C p) j)
    have hnew : ¬ ∃ i < j, gpick (rnd (start C p) i) = gpick (rnd (start C p) j) := by
      intro h
      rw [rnd_apply _ j, if_pos h] at hg
      rw [← hg] at hsup
      exact absurd hsup (not_le.2 neg_two_lt)
    have hg' := hg
    rw [rnd_apply _ j, if_neg hnew] at hg
    have hC : C (gpick (rnd (start C p) j)) := by
      by_contra hn
      rw [start, if_neg hn] at hg
      rw [← hg] at hsup
      exact absurd hsup (not_le.2 neg_one_lt)
    rw [start, if_pos hC] at hg
    exact ⟨hC, fun i hi h => hnew ⟨i, hi, h⟩, hg.symm⟩
  refine ⟨⟨fun j hj => (key j hj).1, fun i j hij hj => (key j hj).2.1 i hij, fun j hj e he hi => ?_⟩,
    fun j hj => (key j hj).2.2⟩
  rw [← (key j hj).2.2]
  have hv : rnd (start C p) j e = p e := by
    rw [rnd_apply, if_neg (by push Not; exact hi), start, if_pos he]
  exact hv ▸ Finset.le_sup (f := rnd (start C p) j) (Finset.mem_univ e)

/-! ## The two-stage choice -/

/-- The probabilities of the candidates, in the candidates' order. -/
def cand (σ : Fin 64 → Fin 64) (p : Fin 64 → EReal) (k : Fin 32) : EReal := p (σ ⟨k.val, k.isLt.trans (by decide)⟩)

/-- The candidates' order of their probabilities, followed by the candidates' own order: `σ` lists the candidates. -/
def twoStage (σ : Fin 64 → Fin 64) (p : Fin 64 → EReal) (k : Fin 32) : Fin 64 :=
  σ ⟨(order (cand σ p) k).val, (order (cand σ p) k).isLt.trans (by decide)⟩

/-- It chooses greedily among the candidates. -/
theorem twoStage_greedy (σ : Fin 64 → Fin 64) (hσ : Function.Injective σ) (p : Fin 64 → EReal) :
    Greedy (fun e => ∃ k : Fin 64, k.val < 32 ∧ σ k = e) p 32
      (fun j => if h : j < 32 then twoStage σ p ⟨j, h⟩ else 0) := by
  refine ⟨fun j hj => ?_, fun i j hij hj => ?_, fun j hj e he hi => ?_⟩
  · simp only [hj, dif_pos]
    exact ⟨_, (order _ _).isLt, rfl⟩
  · simp only [hj, hij.trans hj, dif_pos]
    intro h
    have h1 := hσ h
    rw [Fin.mk.injEq] at h1
    have h2 := order_injective _ (Fin.ext h1)
    rw [Fin.mk.injEq] at h2
    omega
  · simp only [hj, dif_pos]
    obtain ⟨k, hk, rfl⟩ := he
    obtain ⟨a, ha⟩ := order_surjective (cand σ p) ⟨k.val, hk⟩
    have hja : j ≤ a.val := by
      by_contra hlt
      push Not at hlt
      refine hi a.val hlt ?_
      simp only [a.isLt, dif_pos, twoStage, Fin.eta, ha]
    have := order_anti (cand σ p) (i := ⟨j, hj⟩) (j := a) hja
    rw [ha] at this
    exact this

end Cert.Proof

end
-- ==== Proof.Gathers.lean ====
/- The two indexed reads of the reference at one place: the largest entries of a row by `order`, and the entry of a
   row at a given position. -/
module

public import proofs.«01_k».proof.Proof.Column

@[expose] public section

noncomputable section

namespace Cert.Proof

open Idealize.ShloMosaic

/-! ## The largest entries of a row -/

/-- The comparison by which the rows are sorted says of two entries whether the first is the greater. -/
theorem greater_first (a b : EReal) : ((FloatOps.cmpfTotal (F := Ideal) (φ := .f32) .gt a b : BitVec 1) == 1#1) = decide (b < a) := by
  show (BitVec.ofBool (decide (b < a)) == 1#1) = decide (b < a)
  by_cases h : b < a <;> simp [h]

/-- An index of a two-dimensional array moved along its second axis. -/
theorem along_one {R n : ℕ} (r : Fin R) (j k : Fin n) :
    Shape.Idx.along (s := ⟨2, ![R, n]⟩) (ix2 r j) ⟨1, Nat.one_lt_two⟩ k = ix2 r k := by
  funext a
  unfold Shape.Idx.along
  match a with
  | ⟨0, _⟩ => rfl
  | ⟨1, _⟩ => exact Function.update_self ..

/-- The place a slice from the front reads. -/
theorem slice_idx {R n k : ℕ} (h : (⟨2, ![R, n]⟩ : Shape).Slices (fun _ => 0) ⟨2, ![R, k]⟩) (hk : k ≤ n) {α : Type}
    (x : (⟨2, ![R, n]⟩ : Shape).Idx → α) (r : Fin R) (j : Fin k) :
    extractStridedSlice ⟨2, ![R, k]⟩ (fun _ => 0) x h (ix2 r j) = x (ix2 r ⟨j.val, j.2.trans_le hk⟩) := by
  unfold extractStridedSlice
  refine congrArg x (funext fun a => ?_)
  match a with
  | ⟨0, _⟩ => exact Fin.ext (Nat.zero_add _)
  | ⟨1, _⟩ => exact Fin.ext (Nat.zero_add _)

/-- The position that a row's sort puts at place `j`. -/
theorem sorted_order {R n : ℕ} (x : FVec Ideal ⟨2, ![R, n]⟩ .f32) (r : Fin R) (j : Fin n) :
    sortedFrom (fun k k' : Fin n => FloatOps.cmpfTotal (F := Ideal) (φ := .f32) .gt
      (x (Shape.Idx.along (s := ⟨2, ![R, n]⟩) (ix2 r j) ⟨1, Nat.one_lt_two⟩ k))
      (x (Shape.Idx.along (s := ⟨2, ![R, n]⟩) (ix2 r j) ⟨1, Nat.one_lt_two⟩ k')) == 1#1) j
    = order (fun e => x (ix2 r e)) j := by
  unfold order
  refine congrFun (sortedFrom_congr _ _ fun k k' _ => ?_) j
  rw [along_one, along_one, greater_first]

/-- The `j`-th of the largest entries of row `r`. -/
theorem topK_value {R n k : ℕ} (x : FVec Ideal ⟨2, ![R, n]⟩ .f32)
    (h : (⟨2, ![R, n]⟩ : Shape).Slices (fun _ => 0) ⟨2, ![R, k]⟩) (hk : k ≤ n) (r : Fin R) (j : Fin k) :
    (Host.topK ⟨2, ![R, k]⟩ 1 (FloatOps.cmpfTotal .gt) x h).1 (ix2 r j)
      = x (ix2 r (order (fun e => x (ix2 r e)) ⟨j.val, j.2.trans_le hk⟩)) := by
  simp only [Host.topK, Host.sort2, Nat.one_lt_two, ↓reduceDIte]
  rw [slice_idx h hk]
  refine (congrArg x (along_one r _ _)).trans ?_
  exact congrArg (fun e => x (ix2 r e)) (sorted_order x r _)

/-- The position of the `j`-th of the largest entries of row `r`. -/
theorem topK_index {R n k : ℕ} (x : FVec Ideal ⟨2, ![R, n]⟩ .f32)
    (h : (⟨2, ![R, n]⟩ : Shape).Slices (fun _ => 0) ⟨2, ![R, k]⟩) (hk : k ≤ n) (r : Fin R) (j : Fin k) :
    (Host.topK ⟨2, ![R, k]⟩ 1 (FloatOps.cmpfTotal .gt) x h).2 (ix2 r j)
      = BitVec.ofNat 32 (order (fun e => x (ix2 r e)) ⟨j.val, j.2.trans_le hk⟩).val := by
  simp only [Host.topK, Host.sort2, Nat.one_lt_two, ↓reduceDIte]
  rw [slice_idx h hk]
  refine (congrArg (iotaInDim (⟨2, ![R, n]⟩ : Shape) 32 ⟨1, Nat.one_lt_two⟩) (along_one r _ _)).trans ?_
  exact congrArg (fun e : Fin n => BitVec.ofNat 32 e.val) (sorted_order x r _)

/-! ## The entry of a row at a given position -/

/-- A gather along the second axis, row by row, reads row `r` at the position given at `(r, k)`. -/
theorem gather_along {α : Type} {R n k : ℕ} (d : GatherDims ⟨2, ![R, n]⟩ ⟨3, ![R, k, 1]⟩ ⟨2, ![R, k]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, n]⟩ : Shape).Idx → α) (idx : IVec ⟨3, ![R, k, 1]⟩ 32) (r : Fin R) (j : Fin k) (b : Fin n)
    (hb : (idx (ix3 r j (0 : Fin 1))).toInt = b.val) :
    Host.gather d x idx (ix2 r j) = x (ix2 r b) := by
  obtain ⟨off, coll, ob, sb, sim, ivd, sl, wf⟩ := d
  dsimp only at hoff hcoll hob hsb hsim hivd
  subst hoff hcoll hob hsb hsim hivd
  have hsl : sl 1 = 1 := GatherDims.slice_collapsed ⟨[], [1], [0], [0], [1], 2, sl, wf⟩ 1 (List.mem_singleton.2 rfl)
  unfold Host.gather
  refine congrArg x (funext fun a => Fin.ext ?_)
  match a with
  | ⟨0, _⟩ =>
    show GatherDims.start _ _ _ 0 + GatherDims.batchCoord _ _ 0 + GatherDims.offCoord _ _ 0 = r.val
    rw [GatherDims.start_batching _ _ _ _ (List.mem_singleton.2 rfl),
      GatherDims.offCoord_eq_zero _ _ _ (fun h => ((GatherDims.mem_sKept _ _).1 h).2 (List.mem_singleton.2 rfl))]
    rw [Nat.zero_add, Nat.add_zero]
    rfl
  | ⟨1, _⟩ =>
    show GatherDims.start _ _ _ 1 + GatherDims.batchCoord _ _ 1 + GatherDims.offCoord _ _ 1 = b.val
    rw [GatherDims.batchCoord_eq_zero _ _ _ (fun h => Fin.zero_ne_one (List.mem_singleton.1 h).symm),
      GatherDims.offCoord_eq_zero _ _ _ (fun h => ((GatherDims.mem_sKept _ _).1 h).1 (List.mem_singleton.2 rfl))]
    unfold GatherDims.start
    rw [dif_pos (List.mem_singleton.2 rfl)]
    have hsi : GatherDims.siIdx ⟨[], [1], [0], [0], [1], 2, sl, wf⟩ (ix2 r j) ⟨0, Nat.one_pos⟩ = ix3 r j (0 : Fin 1) := by
      funext b'
      match b' with
      | ⟨0, _⟩ => rfl
      | ⟨1, _⟩ => rfl
      | ⟨2, _⟩ => rfl
    have hs2 := (congrArg (fun i => (idx i).toInt) hsi).trans hb
    have hbl := b.isLt
    show min (idx (GatherDims.siIdx ⟨[], [1], [0], [0], [1], 2, sl, wf⟩ (ix2 r j) ⟨0, Nat.one_pos⟩)).toInt.toNat (n - sl 1) = b.val
    rw [hsl]
    dsimp only at hs2
    rw [hs2]
    omega

end Cert.Proof

end
-- ==== Proof.Reads.lean ====
/- One compare-exchange of the sort, read down a lane, is a stage of Batcher's network; so the 21 of them sort the
   lane's 64 entries. -/
module

public import proofs.«01_k».proof.Proof.Step
public import Idealize.ShloMosaic.Lib.Pointwise
public import Idealize.ShloMosaic.Lib.SortNet.Sorts

@[expose] public section

noncomputable section

namespace Cert.Proof

open Idealize.ShloMosaic Idealize.SL.Sem Cert.KernelIdeal Cert.KernelIdeal.Gen Idealize.ShloMosaic.SortNet

variable (v : FVec Ideal S64x1024 .f32)

/-- Where the bit is clear. -/
theorem bit_apply (b : BitVec 32) (e : Fin 64) :
    bit b (ix2 e 0) = BitVec.ofBool (decide (BitVec.ofNat 32 e.val &&& b = 0#32)) := by
  pointwise [bit, lanes]
  rfl

/-- The choice between two vectors by a bit of the row's number. -/
theorem select_bit (b : BitVec 32) (e : Fin 64) (x y : EReal) (p : Prop) [Decidable p]
    (h : (BitVec.ofNat 32 e.val &&& b = 0#32) ↔ p) :
    Scalar.select (bit b (ix2 e 0)) x y = if p then x else y := by
  rw [bit_apply]
  by_cases hp : p
  · rw [if_pos hp, decide_eq_true (h.mpr hp)]; rfl
  · rw [if_neg hp, decide_eq_false (fun q => hp (h.mp q))]; rfl

/-- Each row's entry of it is that of the partner whose number differs in bit 0. -/
theorem part1_apply (e : Fin 64) (c : Fin 1024) : part1 v (ix2 e c) = v (ix2 (partner 6 0 e) c) := by
  have h : ∀ e : Fin 64, (BitVec.ofNat 32 e.val &&& 1#32 = 0#32) ↔ e.val % 2 = 0 := by decide
  have hp : ∀ e : Fin 64, (e.val % 2 = 0 ∧ (partner 6 0 e).val = e.val + 1) ∨ (¬(e.val % 2 = 0) ∧ (partner 6 0 e).val = e.val - 1) := by decide
  have he := hp e
  pointwise [part1, spread]
  rw [select_bit _ _ _ _ _ (h e)]
  split_ifs <;> first | (exfalso; omega) | exact congrArg (fun q => v (ix2 q c)) (Fin.ext (by
    dsimp only; omega))

/-- Each row's entry of it is that of the partner whose number differs in bit 1. -/
theorem part2_apply (e : Fin 64) (c : Fin 1024) : part2 v (ix2 e c) = v (ix2 (partner 6 1 e) c) := by
  have h : ∀ e : Fin 64, (BitVec.ofNat 32 e.val &&& 2#32 = 0#32) ↔ e.val % 4 < 2 := by decide
  have hp : ∀ e : Fin 64, (e.val % 4 < 2 ∧ (partner 6 1 e).val = e.val + 2) ∨ (¬(e.val % 4 < 2) ∧ (partner 6 1 e).val = e.val - 2) := by decide
  have he := hp e
  pointwise [part2, spread]
  rw [select_bit _ _ _ _ _ (h e)]
  split_ifs <;> first | (exfalso; omega) | exact congrArg (fun q => v (ix2 q c)) (Fin.ext (by
    dsimp only; omega))

/-- Each row's entry of it is that of the partner whose number differs in bit 2. -/
theorem part4_apply (e : Fin 64) (c : Fin 1024) : part4 v (ix2 e c) = v (ix2 (partner 6 2 e) c) := by
  have h : ∀ e : Fin 64, (BitVec.ofNat 32 e.val &&& 4#32 = 0#32) ↔ e.val % 8 < 4 := by decide
  have hp : ∀ e : Fin 64, (e.val % 8 < 4 ∧ (partner 6 2 e).val = e.val + 4) ∨ (¬(e.val % 8 < 4) ∧ (partner 6 2 e).val = e.val - 4) := by decide
  have he := hp e
  pointwise [part4, spread]
  rw [select_bit _ _ _ _ _ (h e)]
  split_ifs <;> first | (exfalso; omega) | exact congrArg (fun q => v (ix2 q c)) (Fin.ext (by
    dsimp only; omega))

/-- Each row's entry of it is that of the partner whose number differs in bit 3. -/
theorem part8_apply (e : Fin 64) (c : Fin 1024) : part8 v (ix2 e c) = v (ix2 (partner 6 3 e) c) := by
  have hp : ∀ e : Fin 64, (e.val % 16 < 8 ∧ (partner 6 3 e).val = e.val + 8) ∨ (¬(e.val % 16 < 8) ∧ (partner 6 3 e).val = e.val - 8) := by decide
  have he := hp e
  pointwise [part8]
  split_ifs <;> first | (exfalso; omega) | exact congrArg (fun q => v (ix2 q c)) (Fin.ext (by
    dsimp only; omega))

/-- Each row's entry of it is that of the partner whose number differs in bit 4. -/
theorem part16_apply (e : Fin 64) (c : Fin 1024) : part16 v (ix2 e c) = v (ix2 (partner 6 4 e) c) := by
  have hp : ∀ e : Fin 64, (e.val % 32 < 16 ∧ (partner 6 4 e).val = e.val + 16) ∨ (¬(e.val % 32 < 16) ∧ (partner 6 4 e).val = e.val - 16) := by decide
  have he := hp e
  pointwise [part16]
  split_ifs <;> first | (exfalso; omega) | exact congrArg (fun q => v (ix2 q c)) (Fin.ext (by
    dsimp only; omega))

/-- Each row's entry of it is that of the partner whose number differs in bit 5. -/
theorem part32_apply (e : Fin 64) (c : Fin 1024) : part32 v (ix2 e c) = v (ix2 (partner 6 5 e) c) := by
  have hp : ∀ e : Fin 64, (e.val < 32 ∧ (partner 6 5 e).val = e.val + 32) ∨ (¬(e.val < 32) ∧ (partner 6 5 e).val = e.val - 32) := by decide
  have he := hp e
  pointwise [part32]
  split_ifs <;> first | (exfalso; omega) | exact congrArg (fun q => v (ix2 q c)) (Fin.ext (by
    dsimp only; omega))

/-- A compare-exchange at an index. -/
theorem step_apply (m : IVec S64x1 1) (p : FVec Ideal S64x1024 .f32) (e : Fin 64) (c : Fin 1024) :
    step m v p (ix2 e c) = if m (ix2 e 0) = 1#1 then min (v (ix2 e c)) (p (ix2 e c)) else max (v (ix2 e c)) (p (ix2 e c)) := by
  pointwise [step, spread]
  rfl

/-- The bits of the row's number that decide who keeps the smaller entry. -/
theorem low_apply (k j : BitVec 32) (e : Fin 64) :
    low k j (ix2 e 0) = 1#1 ↔
      (decide (BitVec.ofNat 32 e.val &&& k = 0#32)) = decide (BitVec.ofNat 32 e.val &&& j = 0#32) := by
  have e1 : low k j (ix2 e 0) = bit k (ix2 e 0) ^^^ bit j (ix2 e 0) ^^^ 1#1 := rfl
  rw [e1, bit_apply, bit_apply]
  generalize decide (BitVec.ofNat 32 e.val &&& k = 0#32) = a
  generalize decide (BitVec.ofNat 32 e.val &&& j = 0#32) = b
  revert a b
  decide

/-- One lane of a vector. -/
def col (v : FVec Ideal S64x1024 .f32) (c : Fin 1024) : Fin (2 ^ 6) → EReal := fun e => v (ix2 (e : Fin 64) c)

/-- A compare-exchange with the row at distance `2 ^ s`, read down a lane, is the network's stage at that distance. -/
theorem col_step (k j : BitVec 32) (l s : Nat) (hs : s < 6) (p : FVec Ideal S64x1024 .f32) (c : Fin 1024)
    (hp : ∀ e : Fin 64, p (ix2 e c) = v (ix2 (partner 6 s e) c))
    (hk : ∀ e : Fin 64, decide (BitVec.ofNat 32 e.val &&& k = 0#32) = decide (e.val &&& 2 ^ (l + 1) = 0))
    (hj : ∀ e : Fin 64, decide (BitVec.ofNat 32 e.val &&& j = 0#32) = decide (e.val &&& 2 ^ s = 0))
    (hl : ∀ e : Fin 64, decide ((partner 6 s e).val &&& 2 ^ (l + 1) = 0) = decide (e.val &&& 2 ^ (l + 1) = 0)) :
    col (step (low k j) v p) c
      = Network.apply (stage 6 s fun i => (decide (i.val &&& 2 ^ (l + 1) = 0)) == false) (col v c) := by
  funext e
  show step (low k j) v p (ix2 (e : Fin 64) c) = _
  rw [step_apply]
  simp only [low_apply, hk, hj, hp]
  by_cases he : e.val &&& 2 ^ s = 0
  · rw [(apply_stage hs _ (col v c) e he).1]
    simp only [he, decide_true]
    by_cases h2 : e.val &&& 2 ^ (l + 1) = 0 <;> simp [h2, col]
  · have h1 := partner_and_of_set hs e he
    have h3 := (apply_stage hs (fun i => (decide (i.val &&& 2 ^ (l + 1) = 0)) == false) (col v c) (partner 6 s e) h1).2
    rw [partner_partner hs] at h3
    rw [h3, hl]
    by_cases h2 : e.val &&& 2 ^ (l + 1) = 0 <;> simp [h2, he, col, max_comm, min_comm]

/-- The 21 compare-exchanges are the sorting network. -/
theorem col_s21 (c : Fin 1024) : col (s21 v) c = Network.apply (sortNet 6 false) (col v c) := by
  have e : sortNet 6 false =
      stage 6 0 (fun i => (decide (i.val &&& 2 ^ (0 + 1) = 0)) == false) ++
      (stage 6 1 (fun i => (decide (i.val &&& 2 ^ (1 + 1) = 0)) == false) ++
      (stage 6 0 (fun i => (decide (i.val &&& 2 ^ (1 + 1) = 0)) == false) ++
      (stage 6 2 (fun i => (decide (i.val &&& 2 ^ (2 + 1) = 0)) == false) ++
      (stage 6 1 (fun i => (decide (i.val &&& 2 ^ (2 + 1) = 0)) == false) ++
      (stage 6 0 (fun i => (decide (i.val &&& 2 ^ (2 + 1) = 0)) == false) ++
      (stage 6 3 (fun i => (decide (i.val &&& 2 ^ (3 + 1) = 0)) == false) ++
      (stage 6 2 (fun i => (decide (i.val &&& 2 ^ (3 + 1) = 0)) == false) ++
      (stage 6 1 (fun i => (decide (i.val &&& 2 ^ (3 + 1) = 0)) == false) ++
      (stage 6 0 (fun i => (decide (i.val &&& 2 ^ (3 + 1) = 0)) == false) ++
      (stage 6 4 (fun i => (decide (i.val &&& 2 ^ (4 + 1) = 0)) == false) ++
      (stage 6 3 (fun i => (decide (i.val &&& 2 ^ (4 + 1) = 0)) == false) ++
      (stage 6 2 (fun i => (decide (i.val &&& 2 ^ (4 + 1) = 0)) == false) ++
      (stage 6 1 (fun i => (decide (i.val &&& 2 ^ (4 + 1) = 0)) == false) ++
      (stage 6 0 (fun i => (decide (i.val &&& 2 ^ (4 + 1) = 0)) == false) ++
      (stage 6 5 (fun i => (decide (i.val &&& 2 ^ (5 + 1) = 0)) == false) ++
      (stage 6 4 (fun i => (decide (i.val &&& 2 ^ (5 + 1) = 0)) == false) ++
      (stage 6 3 (fun i => (decide (i.val &&& 2 ^ (5 + 1) = 0)) == false) ++
      (stage 6 2 (fun i => (decide (i.val &&& 2 ^ (5 + 1) = 0)) == false) ++
      (stage 6 1 (fun i => (decide (i.val &&& 2 ^ (5 + 1) = 0)) == false) ++
      (stage 6 0 (fun i => (decide (i.val &&& 2 ^ (5 + 1) = 0)) == false)
        )))))))))))))))))))) := by
    simp only [sortNet, List.range_succ, List.range_zero, List.flatMap_cons, List.flatMap_nil, List.nil_append,
      List.cons_append, List.reverse_cons, List.reverse_nil, List.append_nil, List.append_assoc]
  rw [e]
  simp only [Network.apply_append]
  rw [s21, col_step _ _ _ 5 0 (by decide) _ c (fun e => part1_apply _ e c) (by decide) (by decide) (by decide),
    s20, col_step _ _ _ 5 1 (by decide) _ c (fun e => part2_apply _ e c) (by decide) (by decide) (by decide),
    s19, col_step _ _ _ 5 2 (by decide) _ c (fun e => part4_apply _ e c) (by decide) (by decide) (by decide),
    s18, col_step _ _ _ 5 3 (by decide) _ c (fun e => part8_apply _ e c) (by decide) (by decide) (by decide),
    s17, col_step _ _ _ 5 4 (by decide) _ c (fun e => part16_apply _ e c) (by decide) (by decide) (by decide),
    s16, col_step _ _ _ 5 5 (by decide) _ c (fun e => part32_apply _ e c) (by decide) (by decide) (by decide),
    s15, col_step _ _ _ 4 0 (by decide) _ c (fun e => part1_apply _ e c) (by decide) (by decide) (by decide),
    s14, col_step _ _ _ 4 1 (by decide) _ c (fun e => part2_apply _ e c) (by decide) (by decide) (by decide),
    s13, col_step _ _ _ 4 2 (by decide) _ c (fun e => part4_apply _ e c) (by decide) (by decide) (by decide),
    s12, col_step _ _ _ 4 3 (by decide) _ c (fun e => part8_apply _ e c) (by decide) (by decide) (by decide),
    s11, col_step _ _ _ 4 4 (by decide) _ c (fun e => part16_apply _ e c) (by decide) (by decide) (by decide),
    s10, col_step _ _ _ 3 0 (by decide) _ c (fun e => part1_apply _ e c) (by decide) (by decide) (by decide),
    s9, col_step _ _ _ 3 1 (by decide) _ c (fun e => part2_apply _ e c) (by decide) (by decide) (by decide),
    s8, col_step _ _ _ 3 2 (by decide) _ c (fun e => part4_apply _ e c) (by decide) (by decide) (by decide),
    s7, col_step _ _ _ 3 3 (by decide) _ c (fun e => part8_apply _ e c) (by decide) (by decide) (by decide),
    s6, col_step _ _ _ 2 0 (by decide) _ c (fun e => part1_apply _ e c) (by decide) (by decide) (by decide),
    s5, col_step _ _ _ 2 1 (by decide) _ c (fun e => part2_apply _ e c) (by decide) (by decide) (by decide),
    s4, col_step _ _ _ 2 2 (by decide) _ c (fun e => part4_apply _ e c) (by decide) (by decide) (by decide),
    s3, col_step _ _ _ 1 0 (by decide) _ c (fun e => part1_apply _ e c) (by decide) (by decide) (by decide),
    s2, col_step _ _ _ 1 1 (by decide) _ c (fun e => part2_apply _ e c) (by decide) (by decide) (by decide),
    s1, col_step _ _ _ 0 0 (by decide) _ c (fun e => part1_apply _ e c) (by decide) (by decide) (by decide)]

/-- The sorted lane rises. -/
theorem s21_monotone (c : Fin 1024) : Monotone (col (s21 v) c) := by
  rw [col_s21]
  exact sortNet_apply_monotone 6 _

/-- The sorted lane is the lane rearranged. -/
theorem s21_perm (c : Fin 1024) : ∃ π : Equiv.Perm (Fin 64), ∀ e, col (s21 v) c e = col v c (π e) := by
  rw [col_s21]
  obtain ⟨π, h⟩ := Network.exists_perm (sortNet 6 false) (col v c)
  exact ⟨π, fun e => congrFun h e⟩

end Cert.Proof

end
-- ==== Proof.Softmax.lean ====
/- A row of scores under softmax, as extended reals: it keeps the scores' order, and it is nonnegative unless every
   entry is the quotient 0/0. -/
module

public import proofs.«01_k».proof.Proof.Column

@[expose] public section

noncomputable section

namespace Cert.Proof

open Idealize.ShloMosaic

/-- The exponential of a score less the row's largest. -/
def expo (l : Fin 64 → EReal) (e : Fin 64) : EReal := Ideal.exp (l e - Finset.univ.sup l)

/-- The row's softmax. -/
def softmax (l : Fin 64 → EReal) (e : Fin 64) : EReal := Ideal.div (expo l e) (∑ x, expo l x)

/-- An exponential is not negative. -/
theorem exp_nonneg (x : EReal) : 0 ≤ Ideal.exp x := by
  induction x with
  | bot => simp
  | top => simp
  | coe r => rw [Ideal.exp_coe]; exact_mod_cast (Real.exp_pos r).le

/-- The exponential keeps the order. -/
theorem exp_mono {x y : EReal} (h : x ≤ y) : Ideal.exp x ≤ Ideal.exp y := by
  induction y with
  | bot => rw [le_bot_iff] at h; rw [h]
  | top => simp
  | coe s =>
    induction x with
    | bot => simpa using exp_nonneg (s : EReal)
    | top => simp at h
    | coe r =>
      rw [Ideal.exp_coe, Ideal.exp_coe]
      exact_mod_cast Real.exp_le_exp.2 (by exact_mod_cast h)

/-- Division by one nonnegative number keeps the order. -/
theorem div_mono {x y s : EReal} (hs : 0 ≤ s) (h : x ≤ y) : Ideal.div x s ≤ Ideal.div y s := by
  unfold Ideal.div
  by_cases h0 : s = 0
  · rw [if_pos h0, if_pos h0]
    by_cases hx : 0 < x
    · rw [if_pos hx, if_pos (hx.trans_le h)]
    · rw [if_neg hx]; exact bot_le
  · rw [if_neg h0, if_neg h0]
    exact mul_le_mul_of_nonneg_right h (EReal.inv_nonneg_of_nonneg hs)

/-- The sum of the exponentials is not negative. -/
theorem sum_expo_nonneg (l : Fin 64 → EReal) : 0 ≤ ∑ x, expo l x := Finset.sum_nonneg fun _ _ => exp_nonneg _

/-- A larger probability comes from a larger score. -/
theorem softmax_lt (l : Fin 64 → EReal) (e f : Fin 64) (h : softmax l e < softmax l f) : l e < l f := by
  by_contra hn
  rw [not_lt] at hn
  exact absurd (div_mono (sum_expo_nonneg l) (exp_mono (EReal.sub_le_sub hn le_rfl))) (not_le.2 h)

/-- Either all the row's probabilities are nonnegative, or all are the quotient 0/0. -/
theorem softmax_cases (l : Fin 64 → EReal) : (∀ e, 0 ≤ softmax l e) ∨ ∀ e, softmax l e = ⊥ := by
  by_cases h0 : ∑ x, expo l x = 0
  · right
    intro e
    have he : expo l e = 0 :=
      (Finset.sum_eq_zero_iff_of_nonneg fun x _ => exp_nonneg _).1 h0 e (Finset.mem_univ e)
    unfold softmax Ideal.div
    rw [if_pos h0, he, if_neg (lt_irrefl _)]
  · left
    intro e
    unfold softmax Ideal.div
    rw [if_neg h0]
    exact mul_nonneg (exp_nonneg _) (EReal.inv_nonneg_of_nonneg (sum_expo_nonneg l))

/-- One nonnegative probability makes them all so. -/
theorem softmax_nonneg_of (l : Fin 64 → EReal) (e : Fin 64) (h : 0 ≤ softmax l e) (f : Fin 64) : 0 ≤ softmax l f := by
  rcases softmax_cases l with h1 | h1
  · exact h1 f
  · rw [h1 e] at h; simp at h

/-- Two different probabilities make them all nonnegative. -/
theorem softmax_nonneg_of_lt (l : Fin 64 → EReal) (e e' : Fin 64) (h : softmax l e < softmax l e') (f : Fin 64) :
    0 ≤ softmax l f := by
  rcases softmax_cases l with h1 | h1
  · exact h1 f
  · rw [h1 e, h1 e'] at h; simp at h

end Cert.Proof

end
-- ==== Proof.Rounds.lean ====
/- What a half stores, read down a lane: one round of the choice is `gpick` and `gstrike`, the masked probabilities
   are `start`, and the three stored vectors are the softmax, the chosen probabilities over their sum, and the choices. -/
module

public import proofs.«01_k».proof.Proof.Reads
public import proofs.«01_k».proof.Proof.Softmax

@[expose] public section

noncomputable section

namespace Cert.Proof

open Idealize.ShloMosaic Idealize.SL.Sem Cert.KernelIdeal Cert.KernelIdeal.Gen Idealize.ShloMosaic.SortNet

/-! ## The constants -/

/-- The word of −∞. -/
theorem ofBits_neg_inf : Ideal.ofBits .f32 0xFF800000#32 = ⊥ := by simp [Ideal.ofBits, Ideal.ieee]

/-- The word of +∞. -/
theorem ofBits_pos_inf : Ideal.ofBits .f32 0x7F800000#32 = ⊤ := by simp [Ideal.ofBits, Ideal.ieee]

/-- The word of 64. -/
theorem ofBits_64 : Ideal.ofBits .f32 0x42800000#32 = ((64 : ℝ) : EReal) := by
  simp [Ideal.ofBits, Ideal.ieee, -EReal.coe_mul]; norm_num

/-- The word of −2. -/
theorem ofBits_neg_two : Ideal.ofBits .f32 0xC0000000#32 = -2 := by
  rw [show (-2 : EReal) = ((-2 : ℝ) : EReal) from rfl]
  simp [Ideal.ofBits, Ideal.ieee, -EReal.coe_mul, -EReal.coe_neg]; norm_num

/-- The word of −1. -/
theorem ofBits_neg_one : Ideal.ofBits .f32 0xBF800000#32 = -1 := by
  rw [show (-1 : EReal) = ((-1 : ℝ) : EReal) from rfl]
  simp [Ideal.ofBits, Ideal.ieee, -EReal.coe_mul, -EReal.coe_neg]; norm_num

/-! ## One round -/

variable (m : FVec Ideal S64x1024 .f32)

/-- A lane of 64 entries. -/
def lane (v : FVec Ideal S64x1024 .f32) (c : Fin 1024) : Fin 64 → EReal := fun e => v (ix2 e c)

/-- The maximum down a lane. -/
theorem top_apply (c : Fin 1024) : top m (ix2 0 c) = Finset.univ.sup (lane m c) := by
  pointwise [top]
  rw [ofBits_neg_inf]
  rfl

/-- The number of a sublane, as a float. -/
theorem lanesF_apply (e : Fin 64) : lanesF (F := Ideal) (ix2 e 0) = ((e.val : ℝ) : EReal) := by
  pointwise [lanesF, lanes]
  have h : ∀ e : Fin 64, (BitVec.ofNat 32 e.val).toInt = (e.val : Int) := by decide
  show (((BitVec.ofNat 32 e.val).toInt : ℝ) : EReal) = _
  rw [h e]
  simp

/-- The round's choice is the first row that holds the lane's largest entry. -/
theorem pick_apply (c : Fin 1024) : pick m (ix2 0 c) = (((gpick (lane m c)).val : ℝ) : EReal) := by
  pointwise [pick, down]
  simp only [top_apply, lanesF_apply, ofBits_pos_inf, ofBits_64]
  show Finset.univ.inf (fun x : Fin 64 => if lane m c x = Finset.univ.sup (lane m c) then ((x.val : ℝ) : EReal)
    else ((64 : ℝ) : EReal)) = _
  apply le_antisymm
  · refine (Finset.inf_le (Finset.mem_univ (gpick (lane m c)))).trans ?_
    rw [if_pos (gpick_eq _)]
  · refine Finset.le_inf fun x _ => ?_
    by_cases h : lane m c x = Finset.univ.sup (lane m c)
    · rw [if_pos h]
      have := gpick_le _ x h
      exact_mod_cast this
    · rw [if_neg h]
      have := (gpick (lane m c)).isLt
      exact_mod_cast this.le

/-- The round's removal. -/
theorem strike_apply (c : Fin 1024) : lane (strike m) c = gstrike (lane m c) := by
  funext e
  show strike m (ix2 e c) = _
  pointwise [strike, down]
  rw [lanesF_apply, pick_apply, ofBits_neg_two, gstrike]
  have : (((e.val : ℝ) : EReal) = (((gpick (lane m c)).val : ℝ) : EReal)) ↔ e = gpick (lane m c) := by
    rw [EReal.coe_eq_coe_iff, Nat.cast_inj, Fin.ext_iff]
  simp only [this]
  rfl

/-- The masked probabilities: those whose logit reaches the sorted lane's entry 32. -/
theorem mk0_apply (b p : FVec Ideal S64x1024 .f32) (c : Fin 1024) (e : Fin 64) :
    lane (mk0 b p) c e = if col (s21 b) c (32 : Fin 64) ≤ lane b c e then lane p c e else -1 := by
  show mk0 b p (ix2 e c) = _
  pointwise [mk0, down]
  rw [ofBits_neg_one]
  rfl

/-- The vector the `j`-th round starts from. -/
def rounds : Nat → FVec Ideal S64x1024 .f32
  | 0 => m
  | 1 => st1 m
  | 2 => st2 m
  | 3 => st3 m
  | 4 => st4 m
  | 5 => st5 m
  | 6 => st6 m
  | _ => st7 m

/-- A lane after `j` rounds, in the terms of one row. -/
theorem rounds_apply (c : Fin 1024) (j : Nat) (hj : j < 8) : lane (rounds m j) c = rnd (lane m c) j := by
  have h1 : lane (st1 m) c = rnd (lane m c) 1 := strike_apply m c
  have h2 : lane (st2 m) c = rnd (lane m c) 2 := by rw [st2, strike_apply, h1]; rfl
  have h3 : lane (st3 m) c = rnd (lane m c) 3 := by rw [st3, strike_apply, h2]; rfl
  have h4 : lane (st4 m) c = rnd (lane m c) 4 := by rw [st4, strike_apply, h3]; rfl
  have h5 : lane (st5 m) c = rnd (lane m c) 5 := by rw [st5, strike_apply, h4]; rfl
  have h6 : lane (st6 m) c = rnd (lane m c) 6 := by rw [st6, strike_apply, h5]; rfl
  have h7 : lane (st7 m) c = rnd (lane m c) 7 := by rw [st7, strike_apply, h6]; rfl
  match j, hj with
  | 0, _ => rfl
  | 1, _ => exact h1
  | 2, _ => exact h2
  | 3, _ => exact h3
  | 4, _ => exact h4
  | 5, _ => exact h5
  | 6, _ => exact h6
  | 7, _ => exact h7

/-- The eight largest entries. -/
theorem tops_apply (j : Fin 8) (c : Fin 1024) :
    tops m (ix2 j c) = Finset.univ.sup (rnd (lane m c) j.val) := by
  rw [← rounds_apply m c j.val j.isLt, ← top_apply]
  pointwise [tops]
  fin_vals j with hj <;> simp [hj] <;> rfl

/-- The eight choices. -/
theorem picks_apply (j : Fin 8) (c : Fin 1024) :
    picks m (ix2 j c) = (((gpick (rnd (lane m c) j.val)).val : ℝ) : EReal) := by
  rw [← rounds_apply m c j.val j.isLt, ← pick_apply]
  pointwise [picks]
  fin_vals j with hj <;> simp [hj] <;> rfl

/-! ## What a half stores -/

/-- The eight probabilities over their sum. -/
theorem valsT_apply (c : Fin 1024) (j : Fin 8) :
    valsT m (ix2 c j) = Ideal.div (Finset.univ.sup (rnd (lane m c) j.val))
      (∑ i : Fin 8, Finset.univ.sup (rnd (lane m c) i.val)) := by
  pointwise [valsT]
  simp only [tops_apply]

/-- A small natural number's integer. -/
theorem fptosi_nat (e : Fin 64) : Ideal.fptosi 32 (((e.val : ℝ) : EReal)) = BitVec.ofNat 32 e.val := by
  rw [Ideal.fptosi, Ideal.toIntClamped_coe, if_pos (by positivity)]
  have h : ⌊((e.val : ℝ))⌋ = (e.val : Int) := by simp
  rw [h]
  have := e.isLt
  have h2 : max (-((2 ^ (32 - 1) : Nat) : Int)) (min (((2 ^ (32 - 1) : Nat) : Int) - 1) (e.val : Int)) = (e.val : Int) := by
    norm_num; omega
  rw [h2]
  simp

/-- The eight choices as integers. -/
theorem idxT_apply (c : Fin 1024) (j : Fin 8) :
    idxT m (ix2 c j) = BitVec.ofNat 32 (gpick (rnd (lane m c) j.val)).val := by
  pointwise [idxT]
  rw [picks_apply]
  exact fptosi_nat _

/-- The first gate's logits of one row. -/
def gl (w : Vec Ideal S2048x128 .f32) (x : Vec Ideal S1024x2048 .f32) (c : Fin 1024) (e : Fin 64) : EReal :=
  ∑ k : Fin 2048, x (ix2 c k) * w (ix2 k ⟨e.val, by omega⟩)

/-- The second gate's logits of one row. -/
def bl (w : Vec Ideal S2048x128 .f32) (x : Vec Ideal S1024x2048 .f32) (c : Fin 1024) (e : Fin 64) : EReal :=
  ∑ k : Fin 2048, x (ix2 c k) * w (ix2 k ⟨64 + e.val, by omega⟩)

/-- The first gate's probabilities are the softmax of its logits. -/
theorem phalf_apply (x : Vec Ideal S1024x2048 .f32) (w : Vec Ideal S2048x128 .f32) (c : Fin 1024) :
    lane (phalf w x) c = softmax (gl w x c) := by
  funext e
  show phalf w x (ix2 e c) = _
  unfold phalf
  unfold_payloads
  pointwise
  rw [ofBits_neg_inf]
  rfl

/-- A lane of the second gate's scores. -/
theorem bhalf_apply (x : Vec Ideal S1024x2048 .f32) (w : Vec Ideal S2048x128 .f32) (c : Fin 1024) :
    lane (bhalf w x) c = bl w x c := by
  funext e
  show bhalf w x (ix2 e c) = _
  unfold bhalf
  unfold_payloads
  pointwise
  rfl

/-- The stored probabilities are the lanes, transposed. -/
theorem probsT_apply (p : FVec Ideal S64x1024 .f32) (c : Fin 1024) (e : Fin 64) : probsT p (ix2 c e) = lane p c e := by
  pointwise [probsT]
  rfl

end Cert.Proof

end
-- ==== Proof.RefSoft.lean ====
/- The reference's scores and their softmax, each read at one place. -/
module

public import proofs.«01_k».proof.Proof.Gathers
public import proofs.«01_k».proof.Proof.Rounds
public import proofs.«01_k».proof.Proof.Gen.ReferenceIdeal

@[expose] public section

noncomputable section

namespace Cert.Proof

open Idealize.ShloMosaic Idealize.SL.Sem Cert.ReferenceIdeal Cert.ReferenceIdeal.Gen

/-! ## The softmax of the rows -/

/-- The tokens, one row each. -/
def rows (a : FVec Ideal S4x4096x2048 .f32) : FVec Ideal S16384x2048 .f32 :=
  shapeCast _ a shapeCasts_S4x4096x2048_S16384x2048

/-- Each row's inner product with each expert's weights. -/
def scores (a : FVec Ideal S4x4096x2048 .f32) (w : FVec Ideal S64x2048 .f32) : FVec Ideal S16384x64 .f32 :=
  Host.dotGeneral dot_S16384x2048_S2048x64_S16384x64_1_0_0_1_n_n none (rows a) (transpose S2048x64 [1, 0] w transposes_S64x2048_S2048x64_1_0)

/-- The exponentials of the scores less their row's largest. -/
def expos (s : FVec Ideal S16384x64 .f32) : FVec Ideal S16384x64 .f32 :=
  Host.exp (subf s (broadcastInDim S16384x64 ![0, 1] bcast_S16384x1_S16384x64_0_1 (broadcastInDim S16384x1 ![0] bcast_S16384_S16384x1_0 (maximumf (broadcastInDim S16384 ![] bcast_S_S16384 (constant S_ .f32 0xFF800000#32)) (Host.reduce FloatOps.maximumf s (constant S_ .f32 0xFF800000#32) reducesTo_S16384x64_S16384_d1 h_S_)))))

/-- The exponentials over their row's sum. -/
def soft (s : FVec Ideal S16384x64 .f32) : FVec Ideal S16384x64 .f32 :=
  Host.divf (expos s) (broadcastInDim S16384x64 ![0, 1] bcast_S16384x1_S16384x64_0_1 (broadcastInDim S16384x1 ![0] bcast_S16384_S16384x1_0 (Host.reduceAdd (expos s) (constant S_ .f32 0x00000000#32) reducesTo_S16384x64_S16384_d1 h_S_)))

/-- A score is the sum of the products along the 2048 features. -/
theorem scores_apply (a : FVec Ideal S4x4096x2048 .f32) (w : FVec Ideal S64x2048 .f32) (r : Fin 16384) (e : Fin 64) :
    scores a w (ix2 r e) = ∑ k : Fin 2048, rows a (ix2 r k) * w (ix2 e k) := by
  pointwise [scores]

/-- An exponential of the row, in the terms of one row. -/
theorem expos_apply (s : FVec Ideal S16384x64 .f32) (r : Fin 16384) (e : Fin 64) :
    expos s (ix2 r e) = expo (fun e => s (ix2 r e)) e := by
  pointwise [expos]
  rw [ofBits_neg_inf, bot_sup_eq]
  rfl

/-- The softmax of the row, in the terms of one row. -/
theorem soft_apply (s : FVec Ideal S16384x64 .f32) (r : Fin 16384) (e : Fin 64) :
    soft s (ix2 r e) = softmax (fun e => s (ix2 r e)) e := by
  pointwise [soft]
  simp only [expos_apply]
  rfl

end Cert.Proof

end
-- ==== Proof.RefTake.lean ====
/- The reference's reads of a row at given positions, each at one place: the candidates' probabilities, the chosen
   experts, and the chosen probabilities over their sum. -/
module

public import proofs.«01_k».proof.Proof.Gathers
public import proofs.«01_k».proof.Proof.Gen.ReferenceIdeal

@[expose] public section

noncomputable section

namespace Cert.Proof

open Idealize.ShloMosaic Idealize.SL.Sem Cert.ReferenceIdeal Cert.ReferenceIdeal.Gen

/-! ## The candidates and the choice -/

/-- The positions at which the first gate's probabilities are read, one entry each: a negative one counts from the end. -/
def wrap32 (i : IVec S16384x32 32) : IVec S16384x32x1 32 :=
  shapeCast _ (select (cmpi .slt i (broadcastInDim S16384x32 ![] bcast_S_S16384x32 (constantI S_ 32 0#32))) (addi i (broadcastInDim S16384x32 ![] bcast_S_S16384x32 (constantI S_ 32 64#32))) i) shapeCasts_S16384x32_S16384x32x1

/-- Which of these positions lie in the row. -/
def inside32 (i : IVec S16384x32x1 32) : IVec S16384x32 1 :=
  Host.reduce IntOp.andi (andi (cmpi .sge i (broadcastInDim S16384x32x1 ![] bcast_S_S16384x32x1 (constantI S_ 32 0#32))) (cmpi .sle i (broadcastInDim S16384x32x1 ![0, 1, 2] bcast_S1x1x1_S16384x32x1_0_1_2 (broadcastInDim S1x1x1 ![2] bcast_S1_S1x1x1_2 (constantI S1 32 63#32))))) (constantI S_ 1 1#1) reducesTo_S16384x32x1_S16384x32_d2 h_S_

/-- The entries of each row of `p` at the positions `i`. -/
def take32 (p : FVec Ideal S16384x64 .f32) (i : IVec S16384x32 32) : FVec Ideal S16384x32 .f32 :=
  select (inside32 (wrap32 i)) (Host.gather gather_S16384x64_S16384x32x1_S16384x32_n_1_0_0_1_2_11 p (wrap32 i)) (broadcastInDim S16384x32 ![] bcast_S_S16384x32 (constant S_ .f32 0x7FC00000#32))

/-- The positions at which the candidates are read: a negative one counts from the end. -/
def wrap8 (i : IVec S16384x8 32) : IVec S16384x8x1 32 :=
  shapeCast _ (select (cmpi .slt i (broadcastInDim S16384x8 ![] bcast_S_S16384x8 (constantI S_ 32 0#32))) (addi i (broadcastInDim S16384x8 ![] bcast_S_S16384x8 (constantI S_ 32 32#32))) i) shapeCasts_S16384x8_S16384x8x1

/-- Which of these positions lie among the candidates. -/
def inside8 (i : IVec S16384x8x1 32) : IVec S16384x8 1 :=
  Host.reduce IntOp.andi (andi (cmpi .sge i (broadcastInDim S16384x8x1 ![] bcast_S_S16384x8x1 (constantI S_ 32 0#32))) (cmpi .sle i (broadcastInDim S16384x8x1 ![0, 1, 2] bcast_S1x1x1_S16384x8x1_0_1_2 (broadcastInDim S1x1x1 ![2] bcast_S1_S1x1x1_2 (constantI S1 32 31#32))))) (constantI S_ 1 1#1) reducesTo_S16384x8x1_S16384x8_d2 h_S_

/-- The entries of each row of `n` at the positions `i`. -/
def take8 (n : IVec S16384x32 32) (i : IVec S16384x8 32) : IVec S16384x8 32 :=
  select (inside8 (wrap8 i)) (Host.gather gather_S16384x32_S16384x8x1_S16384x8_n_1_0_0_1_2_11 n (wrap8 i)) (broadcastInDim S16384x8 ![] bcast_S_S16384x8 (constantI S_ 32 2147483648#32))

/-- Each row of eight over its sum. -/
def over8 (v : FVec Ideal S16384x8 .f32) : FVec Ideal S16384x8 .f32 :=
  Host.divf v (broadcastInDim S16384x8 ![0, 1] bcast_S16384x1_S16384x8_0_1 (broadcastInDim S16384x1 ![0] bcast_S16384_S16384x1_0 (Host.reduceAdd v (constant S_ .f32 0x00000000#32) reducesTo_S16384x8_S16384_d1 h_S_)))

/-- An entry divided by the sum of its row's eight. -/
theorem over8_apply (v : FVec Ideal S16384x8 .f32) (r : Fin 16384) (j : Fin 8) :
    over8 v (ix2 r j) = Ideal.div (v (ix2 r j)) (∑ i : Fin 8, v (ix2 r i)) := by
  pointwise [over8]

/-- A position in the row is left as it is. -/
theorem wrap32_apply (i : IVec S16384x32 32) (r : Fin 16384) (k : Fin 32) (b : Fin 64) (h : i (ix2 r k) = BitVec.ofNat 32 b.val) :
    wrap32 i (ix3 r k (0 : Fin 1)) = BitVec.ofNat 32 b.val := by
  pointwise [wrap32]
  rw [h]
  clear h
  revert b
  decide

/-- A position in the row is found to lie in it. -/
theorem inside32_apply (i : IVec S16384x32x1 32) (r : Fin 16384) (k : Fin 32) (b : Fin 64)
    (h : i (ix3 r k (0 : Fin 1)) = BitVec.ofNat 32 b.val) : inside32 i (ix2 r k) = 1#1 := by
  pointwise [inside32]
  rw [show (Finset.univ : Finset (Fin 1)) = {0} from rfl, Finset.fold_singleton, h]
  clear h
  revert b
  decide

/-- Where `i` holds the position `b`, that entry of `p`'s row is read. -/
theorem take32_apply (p : FVec Ideal S16384x64 .f32) (i : IVec S16384x32 32) (r : Fin 16384) (k : Fin 32) (b : Fin 64)
    (h : i (ix2 r k) = BitVec.ofNat 32 b.val) : take32 p i (ix2 r k) = p (ix2 r b) := by
  have hw := wrap32_apply i r k b h
  unfold take32
  show Scalar.select (inside32 (wrap32 i) (ix2 r k)) (Host.gather _ p (wrap32 i) (ix2 r k)) _ = _
  rw [inside32_apply _ r k b hw]
  refine (gather_along _ rfl rfl rfl rfl rfl rfl p (wrap32 i) r k b ?_)
  rw [hw]
  clear hw h
  revert b
  decide

/-- A position among the candidates is left as it is. -/
theorem wrap8_apply (i : IVec S16384x8 32) (r : Fin 16384) (k : Fin 8) (b : Fin 32) (h : i (ix2 r k) = BitVec.ofNat 32 b.val) :
    wrap8 i (ix3 r k (0 : Fin 1)) = BitVec.ofNat 32 b.val := by
  pointwise [wrap8]
  rw [h]
  clear h
  revert b
  decide

/-- A position among the candidates is found to lie there. -/
theorem inside8_apply (i : IVec S16384x8x1 32) (r : Fin 16384) (k : Fin 8) (b : Fin 32)
    (h : i (ix3 r k (0 : Fin 1)) = BitVec.ofNat 32 b.val) : inside8 i (ix2 r k) = 1#1 := by
  pointwise [inside8]
  rw [show (Finset.univ : Finset (Fin 1)) = {0} from rfl, Finset.fold_singleton, h]
  clear h
  revert b
  decide

/-- Where `i` holds the position `b`, that entry of `n`'s row is read. -/
theorem take8_apply (n : IVec S16384x32 32) (i : IVec S16384x8 32) (r : Fin 16384) (k : Fin 8) (b : Fin 32)
    (h : i (ix2 r k) = BitVec.ofNat 32 b.val) : take8 n i (ix2 r k) = n (ix2 r b) := by
  have hw := wrap8_apply i r k b h
  unfold take8
  show Scalar.select (inside8 (wrap8 i) (ix2 r k)) (Host.gather _ n (wrap8 i) (ix2 r k)) _ = _
  rw [inside8_apply _ r k b hw]
  refine (gather_along _ rfl rfl rfl rfl rfl rfl n (wrap8 i) r k b ?_)
  rw [hw]
  clear hw h
  revert b
  decide

end Cert.Proof

end
-- ==== Proof.Choice.lean ====
/- One row of the kernel: where the 32nd and 33rd of the second gate's probabilities differ, its masked entries are the
   first gate's probabilities of the 32 candidates, and its rounds choose what the two stages choose. -/
module

public import proofs.«01_k».proof.Proof.Outs
public import proofs.«01_k».proof.Proof.Rounds

@[expose] public section

noncomputable section

namespace Cert.Proof

open Idealize.ShloMosaic Idealize.SL.Sem Cert.KernelIdeal Cert.KernelIdeal.Gen Idealize.ShloMosaic.SortNet

/-- The expert is one of the first 32 in the order of `q`. -/
def Among (q : Fin 64 → EReal) (e : Fin 64) : Prop := ∃ k : Fin 64, k.val < 32 ∧ order q k = e

instance (q : Fin 64 → EReal) : DecidablePred (Among q) := Classical.decPred _

/-- There are 32 of them. -/
theorem card_among (q : Fin 64 → EReal) : (Finset.univ.filter fun e => Among q e).card = 32 := by
  have h : (Finset.univ.filter fun e => Among q e) = (Finset.univ.filter fun k : Fin 64 => k.val < 32).image (order q) := by
    ext e
    simp only [Finset.mem_filter, Finset.mem_univ, true_and, Finset.mem_image]
    rfl
  rw [h, Finset.card_image_of_injective _ (order_injective q)]; decide

/-- The 32nd and the 33rd of `q` differ. -/
def Clear (q : Fin 64 → EReal) : Prop := q (order q 32) < q (order q 31)

/-- The expert chosen in place `j` by the two stages, the candidates by `q` and the choice by `p`. -/
def chosen (q p : Fin 64 → EReal) (j : Fin 32) : Fin 64 := twoStage (order q) p j

/-- The two stages choose greedily among the candidates. -/
theorem chosen_greedy (q p : Fin 64 → EReal) :
    Greedy (Among q) p 32 (fun j => if h : j < 32 then chosen q p ⟨j, h⟩ else 0) :=
  twoStage_greedy (order q) (order_injective q) p

variable (w : Vec Ideal S2048x128 .f32) (x : Vec Ideal S1024x2048 .f32) (c : Fin 1024)

/-- The masked entries of a row. -/
theorem mhalf_lane (hc : Clear (softmax (bl w x c))) :
    lane (mhalf w x) c = start (Among (softmax (bl w x c))) (softmax (gl w x c)) := by
  funext e
  obtain ⟨π, hπ⟩ := s21_perm (bhalf w x) c
  have hb : ∀ e, col (bhalf w x) c e = bl w x c e := fun e => congrFun (bhalf_apply x w c) e
  have hr := reach_iff (bl w x c) (softmax (bl w x c)) (softmax_lt _) (col (s21 (bhalf w x)) c) (s21_monotone _ c) π
    (fun e => (hπ e).trans (hb _)) hc e
  unfold mhalf
  rw [mk0_apply, phalf_apply, bhalf_apply]
  unfold start
  exact if_congr hr rfl rfl

section
variable (q p : Fin 64 → EReal)

/-- The largest entry left before round `j` is the probability of the `j`-th expert that the two stages choose. -/
theorem rounds_value (hp : ∀ e, 0 ≤ p e) (j : Fin 8) :
    Finset.univ.sup (rnd (start (Among q) p) j.val) = p (chosen q p ⟨j.val, j.2.trans (by decide)⟩) := by
  obtain ⟨hg, hs⟩ := rounds_greedy (C := Among q) (p := p) (fun e _ => hp e) 8 (by rw [card_among]; decide)
  rw [hs j.val j.2, hg.val_eq ((chosen_greedy q p).mono (by decide)) j.2, dif_pos (j.2.trans (by decide))]

/-- Where those probabilities fall strictly, round `j` takes the very expert that the two stages choose. -/
theorem rounds_choice (hp : ∀ e, 0 ≤ p e)
    (hs : ∀ j : Fin 8, p (chosen q p ⟨j.val + 1, by omega⟩) < p (chosen q p ⟨j.val, by omega⟩)) (j : Fin 8) :
    gpick (rnd (start (Among q) p) j.val) = chosen q p ⟨j.val, j.2.trans (by decide)⟩ := by
  obtain ⟨hg, -⟩ := rounds_greedy (C := Among q) (p := p) (fun e _ => hp e) 8 (by rw [card_among]; decide)
  have := hg.eq ((chosen_greedy q p).mono (by decide)) (fun i hi => by
    rw [dif_pos (by omega), dif_pos (by omega)]
    exact hs ⟨i, hi⟩) j.2
  rw [dif_pos (j.2.trans (by decide))] at this
  exact this

end

/-- The stored probabilities of a row: those of the chosen, over their sum. -/
theorem half_vals (hc : Clear (softmax (bl w x c)))
    (hp : 0 ≤ softmax (gl w x c) (chosen (softmax (bl w x c)) (softmax (gl w x c)) 0)) (j : Fin 8) :
    valsT (mhalf w x) (ix2 c j)
      = Ideal.div (softmax (gl w x c) (chosen (softmax (bl w x c)) (softmax (gl w x c)) ⟨j.val, j.2.trans (by decide)⟩))
          (∑ i : Fin 8, softmax (gl w x c) (chosen (softmax (bl w x c)) (softmax (gl w x c)) ⟨i.val, i.2.trans (by decide)⟩)) := by
  have hv := rounds_value (softmax (bl w x c)) (softmax (gl w x c)) (softmax_nonneg_of _ _ hp)
  rw [valsT_apply, mhalf_lane w x c hc, hv j]
  exact congrArg _ (Finset.sum_congr rfl fun i _ => hv i)

/-- The stored choices of a row, where the first nine probabilities of the candidates fall strictly. -/
theorem half_idx (hc : Clear (softmax (bl w x c)))
    (hs : ∀ j : Fin 8, softmax (gl w x c) (chosen (softmax (bl w x c)) (softmax (gl w x c)) ⟨j.val + 1, by omega⟩)
      < softmax (gl w x c) (chosen (softmax (bl w x c)) (softmax (gl w x c)) ⟨j.val, by omega⟩)) (j : Fin 8) :
    idxT (mhalf w x) (ix2 c j)
      = BitVec.ofNat 32 (chosen (softmax (bl w x c)) (softmax (gl w x c)) ⟨j.val, j.2.trans (by decide)⟩).val := by
  rw [idxT_apply, mhalf_lane w x c hc, rounds_choice _ _ (softmax_nonneg_of_lt _ _ _ (hs 0)) hs j]

end Cert.Proof

end
-- ==== Proof.RefRows.lean ====
/- The reference's three results read at one place, row by row. -/
module

public import proofs.«01_k».proof.Proof.RefSoft
public import proofs.«01_k».proof.Proof.RefTake
public import proofs.«01_k».proof.Proof.Choice

@[expose] public section

noncomputable section

namespace Cert.Proof

open Idealize.ShloMosaic Idealize.SL.Sem Cert.ReferenceIdeal Cert.ReferenceIdeal.Gen

/-- Row `r` of an array of 64 columns. -/
def row (v : FVec Ideal S16384x64 .f32) (r : Fin 16384) : Fin 64 → EReal := fun e => v (ix2 r e)

/-- The 32 candidates of each row by the probabilities `q`. -/
def ind (q : FVec Ideal S16384x64 .f32) : IVec S16384x32 32 :=
  (Host.topK S16384x32 1 (FloatOps.cmpfTotal .gt) q sliceFits_S16384x64_S16384x32).2

/-- The candidates' probabilities `p`. -/
def cands (p q : FVec Ideal S16384x64 .f32) : FVec Ideal S16384x32 .f32 := take32 p (ind q)

/-- The eight largest of them. -/
def eight (p q : FVec Ideal S16384x64 .f32) : FVec Ideal S16384x8 .f32 :=
  (Host.topK S16384x8 1 (FloatOps.cmpfTotal .gt) (cands p q) sliceFits_S16384x32_S16384x8).1

/-- The places of the eight among the candidates. -/
def place (p q : FVec Ideal S16384x64 .f32) : IVec S16384x8 32 :=
  (Host.topK S16384x8 1 (FloatOps.cmpfTotal .gt) (cands p q) sliceFits_S16384x32_S16384x8).2

variable (p q : FVec Ideal S16384x64 .f32) (r : Fin 16384)

/-- Candidate `k` is the expert in place `k` of the order of `q`. -/
theorem ind_apply (k : Fin 32) : ind q (ix2 r k) = BitVec.ofNat 32 (order (row q r) ⟨k.val, k.2.trans (by decide)⟩).val :=
  topK_index q _ (by decide) r k

/-- Its probability is `p` at that expert. -/
theorem cands_apply (k : Fin 32) : cands p q (ix2 r k) = cand (order (row q r)) (row p r) k :=
  take32_apply p (ind q) r k _ (ind_apply q r k)

/-- The row of the candidates' probabilities. -/
theorem cands_row : (fun k => cands p q (ix2 r k)) = cand (order (row q r)) (row p r) := funext (cands_apply p q r)

/-- The `j`-th largest probability of the candidates is that of the `j`-th chosen. -/
theorem cands_order (j : Fin 32) :
    cands p q (ix2 r (order (fun k => cands p q (ix2 r k)) j)) = row p r (chosen (row q r) (row p r) j) := by
  rw [cands_row, cands_apply]
  rfl

/-- The `j`-th of the eight is the probability of the `j`-th chosen. -/
theorem eight_apply (j : Fin 8) :
    eight p q (ix2 r j) = row p r (chosen (row q r) (row p r) ⟨j.val, j.2.trans (by decide)⟩) :=
  (topK_value (cands p q) _ (by decide) r j).trans (cands_order p q r _)

/-- Its place is that of the `j`-th largest among the candidates. -/
theorem place_apply (j : Fin 8) :
    place p q (ix2 r j) = BitVec.ofNat 32 (order (cand (order (row q r)) (row p r)) ⟨j.val, j.2.trans (by decide)⟩).val := by
  rw [← cands_row]
  exact topK_index (cands p q) _ (by decide) r j

/-- The second result. -/
theorem ref_vals (j : Fin 8) : over8 (eight p q) (ix2 r j)
    = Ideal.div (row p r (chosen (row q r) (row p r) ⟨j.val, j.2.trans (by decide)⟩))
        (∑ i : Fin 8, row p r (chosen (row q r) (row p r) ⟨i.val, i.2.trans (by decide)⟩)) := by
  rw [over8_apply, eight_apply]
  exact congrArg _ (Finset.sum_congr rfl fun i _ => eight_apply p q r i)

/-- The third result. -/
theorem ref_idx (j : Fin 8) : take8 (ind q) (place p q) (ix2 r j)
    = BitVec.ofNat 32 (chosen (row q r) (row p r) ⟨j.val, j.2.trans (by decide)⟩).val := by
  rw [take8_apply (ind q) (place p q) r j _ (place_apply p q r j), ind_apply]
  rfl

end Cert.Proof

end
-- ==== Proof.MaskRead.lean ====
/- The mask read at one place: what it says of a row where it selects. -/
module

public import proofs.«01_k».proof.Proof.OnFacts
public import proofs.«01_k».proof.Proof.RefRows

@[expose] public section

noncomputable section

namespace Cert.Proof

open Idealize.ShloMosaic Idealize.SL.Sem

variable (a0 : FVec Ideal Cert.ReferenceIdeal.S4x4096x2048 .f32) (a1 a2 : FVec Ideal Cert.ReferenceIdeal.S64x2048 .f32)

/-- The largest 33 of the second gate's probabilities. -/
def top33 (q : FVec Ideal Cert.ReferenceIdeal.S16384x64 .f32) : FVec Ideal Cert.On_untied.S16384x33 .f32 :=
  (Host.topK Cert.On_untied.S16384x33 1 (FloatOps.cmpfTotal .gt) q Cert.On_untied.Facts.sliceFits_S16384x64_S16384x33).1

/-- The largest nine of the candidates' probabilities. -/
def top9 (p q : FVec Ideal Cert.ReferenceIdeal.S16384x64 .f32) : FVec Ideal Cert.On_untied.S16384x9 .f32 :=
  (Host.topK Cert.On_untied.S16384x9 1 (FloatOps.cmpfTotal .gt) (cands p q) Cert.On_untied.Facts.sliceFits_S16384x32_S16384x9).1

section
open Cert.On_untied Cert.On_untied.Facts

/-- Whether the 32nd and the 33rd differ. -/
def clearT (q : FVec Ideal Cert.ReferenceIdeal.S16384x64 .f32) : IVec S16384x1 1 :=
  cmpf .ogt (extractStridedSlice S16384x1 ![0, 31] (top33 q) slices_S16384x33_S16384x1_0_31)
    (extractStridedSlice S16384x1 ![0, 32] (top33 q) slices_S16384x33_S16384x1_0_32)

/-- Whether moreover the largest candidate is nonnegative. -/
def valT (p q : FVec Ideal Cert.ReferenceIdeal.S16384x64 .f32) : IVec S16384x1 1 :=
  andi (clearT q) (cmpf .oge (extractStridedSlice S16384x1 ![0, 0] (top9 p q) slices_S16384x9_S16384x1_0_0)
    (broadcastInDim S16384x1 ![] bcast_S_S16384x1 (constant S_ .f32 0x00000000#32)))

/-- The mask from these. -/
theorem mask_eq : Cert.On_untied.fn a0 a1 a2
    = Cert.On_untied.fn_part2 (top9 (soft (scores a0 a1)) (soft (scores a0 a2))) (clearT (soft (scores a0 a2)))
        (valT (soft (scores a0 a1)) (soft (scores a0 a2))) := rfl

end

/-! ## What it says of a row -/

section
open Cert.On_untied Cert.On_untied.Facts

variable (p q : FVec Ideal Cert.ReferenceIdeal.S16384x64 .f32) (r : Fin 16384)

/-- The `j`-th of a row's 33 largest is its entry in place `j` of the order. -/
theorem top33_apply (j : Fin 33) :
    top33 q (ix2 r j) = row q r (order (row q r) ⟨j.val, j.2.trans (by decide)⟩) :=
  topK_value q _ (by decide) r j

/-- The `j`-th of the nine largest candidate probabilities is that of the `j`-th chosen. -/
theorem top9_apply (j : Fin 9) :
    top9 p q (ix2 r j) = row p r (chosen (row q r) (row p r) ⟨j.val, j.2.trans (by decide)⟩) :=
  (topK_value (cands p q) _ (by decide) r j).trans (cands_order p q r _)

/-- A conjunction of two bits. -/
theorem both (a b : BitVec 1) (h : IntOp.andi a b = 1#1) : a = 1#1 ∧ b = 1#1 := by revert a b; decide

/-- A conjunction of many bits. -/
theorem all_of_fold {ι : Type} [DecidableEq ι] (f : ι → BitVec 1) (t : Finset ι) (h : Finset.fold IntOp.andi (1#1) f t = 1#1) :
    ∀ x ∈ t, f x = 1#1 := by
  induction t using Finset.induction_on with
  | empty => simp
  | insert a t ha ih =>
    rw [Finset.fold_insert ha] at h
    obtain ⟨h1, h2⟩ := both _ _ h
    intro x hx
    rcases Finset.mem_insert.1 hx with rfl | hx
    · exact h1
    · exact ih h2 x hx

/-- A bit that says whether something holds. -/
theorem of_bit {P : Prop} [Decidable P] (h : BitVec.ofBool (decide P) = 1#1) : P := by
  by_contra hn
  rw [decide_eq_false hn] at h
  exact absurd h (by decide)

/-- Where the first condition holds, the 32nd and 33rd of the row differ. -/
theorem clearT_apply (h : clearT q (ix2 r 0) = 1#1) : Clear (row q r) := by
  pointwise [clearT] at h
  have := of_bit h
  rw [top33_apply, top33_apply] at this
  exact this

/-- Where the second condition holds, moreover the largest candidate probability is not negative. -/
theorem valT_apply (h : valT p q (ix2 r 0) = 1#1) :
    Clear (row q r) ∧ 0 ≤ row p r (chosen (row q r) (row p r) 0) := by
  pointwise [valT] at h
  obtain ⟨h1, h2⟩ := both _ _ h
  have := of_bit h2
  rw [top9_apply] at this
  exact ⟨clearT_apply q r h1, this⟩

/-- The second mask selects only rows with distinct 32nd and 33rd and a nonnegative largest candidate. -/
theorem mask_second (j : Fin 8) (h : (Cert.On_untied.fn_part2 (F := Ideal) (top9 p q) (clearT q) (valT p q)).2.1 (ix2 r j) = 1#1) :
    Clear (row q r) ∧ 0 ≤ row p r (chosen (row q r) (row p r) 0) := by
  refine valT_apply p q r ?_
  pointwise [fn_part2] at h
  exact h

/-- Which of the nine probabilities exceed the next. -/
def exceed (v : FVec Ideal S16384x9 .f32) : IVec S16384x8 1 :=
  cmpf .ogt (extractStridedSlice S16384x8 ![0, 0] v slices_S16384x9_S16384x8_0_0) (extractStridedSlice S16384x8 ![0, 1] v slices_S16384x9_S16384x8_0_1)

/-- Where the bit is set, entry `j + 1` is below entry `j`. -/
theorem exceed_apply (v : FVec Ideal S16384x9 .f32) (j : Fin 8) (h : exceed v (ix2 r j) = 1#1) :
    v (ix2 r ⟨j.val + 1, by omega⟩) < v (ix2 r ⟨j.val, by omega⟩) := by
  pointwise [exceed] at h
  have := of_bit h
  simpa only [Nat.add_comm] using this

/-- Whether each exceeds the next. -/
def falls (v : FVec Ideal S16384x9 .f32) : IVec S16384 1 :=
  Host.reduce IntOp.andi (exceed v) (constantI S_ 1 1#1) reducesTo_S16384x8_S16384_d1 h_S_

/-- Where the row falls, each of its bits is set. -/
theorem falls_apply (v : FVec Ideal S16384x9 .f32) (h : falls v (ix1 r) = 1#1) (j : Fin 8) : exceed v (ix2 r j) = 1#1 := by
  pointwise [falls] at h
  exact all_of_fold _ _ h j (Finset.mem_univ _)

/-- The third mask. -/
theorem third_eq : (Cert.On_untied.fn_part2 (F := Ideal) (top9 p q) (clearT q) (valT p q)).2.2
    = broadcastInDim S16384x8 ![0, 1] bcast_S16384x1_S16384x8_0_1 (andi (clearT q)
        (broadcastInDim S16384x1 ![0] bcast_S16384_S16384x1_0 (falls (top9 p q)))) := rfl

/-- The third mask selects only rows with distinct 32nd and 33rd in which the nine largest candidates fall strictly. -/
theorem mask_third (j : Fin 8) (h : (Cert.On_untied.fn_part2 (F := Ideal) (top9 p q) (clearT q) (valT p q)).2.2 (ix2 r j) = 1#1) :
    Clear (row q r) ∧ ∀ j : Fin 8, row p r (chosen (row q r) (row p r) ⟨j.val + 1, by omega⟩)
      < row p r (chosen (row q r) (row p r) ⟨j.val, by omega⟩) := by
  rw [third_eq] at h
  pointwise at h
  obtain ⟨h1, h2⟩ := both _ _ h
  refine ⟨clearT_apply q r h1, fun i => ?_⟩
  have := exceed_apply r _ i (falls_apply r _ h2 i)
  rw [top9_apply, top9_apply] at this
  exact this

end

end Cert.Proof

end
-- ==== Proof.Equal.lean ====
/- The kernel's arrays and the reference's, place by place: the first everywhere, the second and the third in the rows
   that the mask selects. -/
module

public import proofs.«01_k».proof.Proof.KernelRead
public import proofs.«01_k».proof.Proof.MaskRead

@[expose] public section

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-- The tokens at launch. -/
abbrev arg0 : FVec Ideal S4x4096x2048 .f32 := m ((c.tc : Thread nD τ).loc main_arg0)

/-- The first gate's weights at launch. -/
abbrev arg1 : FVec Ideal S64x2048 .f32 := m ((c.tc : Thread nD τ).loc main_arg1)

/-- The second gate's weights at launch. -/
abbrev arg2 : FVec Ideal S64x2048 .f32 := m ((c.tc : Thread nD τ).loc main_arg2)

/-- The first gate's probabilities. -/
def first : FVec Ideal S16384x64 .f32 := soft (scores (arg0 m c) (arg1 m c))

/-- The second gate's probabilities. -/
def second : FVec Ideal S16384x64 .f32 := soft (scores (arg0 m c) (arg2 m c))

/-- The block that holds a row. -/
def blockOf (r : Fin 16384) : Fin 16 := ⟨r.val / 1024, by omega⟩

/-- The row's place in its block. -/
def laneOf (r : Fin 16384) : Fin 1024 := ⟨r.val % 1024, Nat.mod_lt _ (by decide)⟩

/-- The rows of the block that holds row `r`. -/
abbrev xof (r : Fin 16384) : Vec Ideal S1024x2048 .f32 := xblk (V m c main_v0) (blockOf r)

/-- Row `r` in its block is row `r` of the tokens. -/
theorem xof_apply (r : Fin 16384) (k : Fin 2048) : xof m c r (ix2 (laneOf r) k) = rows (arg0 m c) (ix2 r k) := by
  show V m c main_v0 _ = _
  rw [entry_rows]
  have h : ∀ s : Fin 16384, s = r → shapeCast S16384x2048 (arg0 m c) shapeCasts_S4x4096x2048_S16384x2048 (ix2 s k) = rows (arg0 m c) (ix2 r k) := by
    rintro _ rfl
    rfl
  exact h _ (Fin.ext (Nat.div_add_mod' r.val 1024))

/-- The block's softmax of the first gate's scores is the reference's row. -/
theorem gl_row (r : Fin 16384) : softmax (gl (V m c main_v2) (xof m c r) (laneOf r)) = row (first m c) r := by
  funext e
  refine Eq.trans ?_ (soft_apply _ r e).symm
  refine congrArg (fun l => softmax l e) (funext fun e => ?_)
  rw [scores_apply]
  exact Finset.sum_congr rfl fun k _ => congrArg₂ _ (xof_apply m c r k) (entry_first m c k e)

/-- The block's softmax of the second gate's scores is the reference's row. -/
theorem bl_row (r : Fin 16384) : softmax (bl (V m c main_v2) (xof m c r) (laneOf r)) = row (second m c) r := by
  funext e
  refine Eq.trans ?_ (soft_apply _ r e).symm
  refine congrArg (fun l => softmax l e) (funext fun e => ?_)
  rw [scores_apply]
  exact Finset.sum_congr rfl fun k _ => congrArg₂ _ (xof_apply m c r k) (entry_second m c k e)

/-- The first result is the first gate's probabilities. -/
theorem equal_first (r : Fin 16384) (e : Fin 64) : (dats m 0 c).arrAt 3 cfg0.N (ix2 r e) = first m c (ix2 r e) := by
  rw [arr3]
  show probsT (phalf (V m c main_v2) (xof m c r)) (ix2 (laneOf r) e) = _
  rw [probsT_apply, phalf_apply, gl_row]
  rfl

/-- The second result where the mask selects. -/
theorem equal_second (r : Fin 16384) (j : Fin 8)
    (h : (Cert.On_untied.fn (arg0 m c) (arg1 m c) (arg2 m c)).2.1 (ix2 r j) = 1#1) :
    (dats m 0 c).arrAt 4 cfg0.N (ix2 r j) = over8 (eight (first m c) (second m c)) (ix2 r j) := by
  rw [mask_eq] at h
  obtain ⟨hc, hp⟩ := mask_second (first m c) (second m c) r j h
  rw [arr4, ref_vals]
  show valsT (mhalf (V m c main_v2) (xof m c r)) (ix2 (laneOf r) j) = _
  rw [half_vals _ _ _ (by rw [bl_row]; exact hc) (by rw [bl_row, gl_row]; exact hp), bl_row, gl_row]

/-- The third result where the mask selects. -/
theorem equal_third (r : Fin 16384) (j : Fin 8)
    (h : (Cert.On_untied.fn (arg0 m c) (arg1 m c) (arg2 m c)).2.2 (ix2 r j) = 1#1) :
    (dats m 0 c).arrAt 5 cfg0.N (ix2 r j) = take8 (ind (second m c)) (place (first m c) (second m c)) (ix2 r j) := by
  rw [mask_eq] at h
  obtain ⟨hc, hs⟩ := mask_third (first m c) (second m c) r j h
  rw [arr5, ref_idx]
  show idxT (mhalf (V m c main_v2) (xof m c r)) (ix2 (laneOf r) j) = _
  rw [half_idx _ _ _ (by rw [bl_row]; exact hc) (by rw [bl_row, gl_row]; exact hs), bl_row, gl_row]

end Cert.Proof

end
-- ==== Proof.RefRun.lean ====
/- The reference's run, its three results in the names of what they hold. -/
module

public import proofs.«01_k».proof.Proof.RefRows
public import proofs.«01_k».proof.Proof.Gen.ReferenceIdeal.Run

@[expose] public section

noncomputable section

namespace Cert.Proof

open Idealize.ShloMosaic Idealize.ShloMosaic.TcCoe Idealize.SL.Sem Cert.ReferenceIdeal Cert.ReferenceIdeal.Gen

/-- Every weakly fair execution of the reference ends with the first gate's probabilities, the eight chosen over their
    sum, and the chosen experts, its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = soft (scores (m ((c.tc : Thread nD τ).loc main_arg0)) (m ((c.tc : Thread nD τ).loc main_arg1)))
      ∧ r.2.mem ((c.tc : Thread nD τ).loc main_v32)
          = over8 (eight (soft (scores (m ((c.tc : Thread nD τ).loc main_arg0)) (m ((c.tc : Thread nD τ).loc main_arg1))))
              (soft (scores (m ((c.tc : Thread nD τ).loc main_arg0)) (m ((c.tc : Thread nD τ).loc main_arg2)))))
      ∧ r.2.mem ((c.tc : Thread nD τ).loc main_v28)
          = take8 (ind (soft (scores (m ((c.tc : Thread nD τ).loc main_arg0)) (m ((c.tc : Thread nD τ).loc main_arg2)))))
              (place (soft (scores (m ((c.tc : Thread nD τ).loc main_arg0)) (m ((c.tc : Thread nD τ).loc main_arg1))))
                (soft (scores (m ((c.tc : Thread nD τ).loc main_arg0)) (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2⟩)
    (Cert.ReferenceIdeal.Value.run m ρ)

end Cert.Proof

end
-- ==== Proof.lean ====
/- The proof of the five claims: the three programs' frames, the ideal program's agreement with the kernel, and the
   equality of the kernel's results with the reference's where the mask selects. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Equal
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel ends without fault, its arguments unchanged and its counters at zero. -/
theorem frame_kernel : Cert.quiescent_Kernel (hKernel := Cert.Kernel.Gen.facts) := fun m ρ _ => Cert.Kernel.Gen.frame m ρ

/-- So does the ideal kernel. -/
theorem frame_ideal : Cert.quiescent_KernelIdeal (hKernelIdeal := Cert.KernelIdeal.Gen.facts) :=
  fun m ρ _ => Cert.KernelIdeal.Gen.frame m ρ

/-- So does the reference. -/
theorem frame_reference : Cert.quiescent_ReferenceIdeal (hReferenceIdeal := Cert.ReferenceIdeal.Gen.facts) := fun m g _ =>
  (θ_run _ _ _).mono (fun r h => ⟨fun c => ⟨(h c).2.2.2.1, (h c).2.2.2.2.1, (h c).2.2.2.2.2⟩, sem_eq_zero_of_no_sems rfl _⟩)
    (Cert.ReferenceIdeal.Value.run m g)

/-- Kernel and reference compute the same first result, and the same second and third where the mask selects. -/
theorem same : Cert.algebraic_KernelIdeal_ReferenceIdeal_on_untied (hKernelIdeal := Cert.KernelIdeal.Gen.facts)
    (hReferenceIdeal := Cert.ReferenceIdeal.Gen.facts) (hOn_untied := maskFacts) := by
  intro m g m' g' _ hm
  refine ⟨fun c => first m c, fun c => over8 (eight (first m c) (second m c)),
    fun c => take8 (ind (second m c)) (place (first m c) (second m c)), ?_, ?_⟩
  · refine (θ_run _ _ _).mono (fun r h c => ⟨fun i _ => ?_, fun i hi => ?_, fun i hi => ?_, (h c).2.2.2⟩)
      (Cert.KernelIdeal.Value.run_blocks m g)
    · rw [(h c).1, ← ix2_eta i]
      exact equal_first m c _ _
    · rw [(h c).2.1]
      rw [← ix2_eta i] at hi ⊢
      exact equal_second m c _ _ hi
    · rw [(h c).2.2.1]
      rw [← ix2_eta i] at hi ⊢
      exact equal_third m c _ _ hi
  · refine (θ_run _ _ _).mono (fun r h c => ?_) (ref_run m' g')
    obtain ⟨h0, h1, h2, h3⟩ := h c
    rw [(hm c).1, (hm c).2.1] at h0
    rw [(hm c).1, (hm c).2.1, (hm c).2.2] at h1 h2
    exact ⟨fun i _ => congrFun h0 i, fun i _ => congrFun h1 i, fun i _ => congrFun h2 i, h3⟩

/-- The five claims. -/
theorem claim : Cert.Claim :=
  ⟨Cert.Kernel.Gen.facts, Cert.KernelIdeal.Gen.facts, Cert.ReferenceIdeal.Gen.facts, maskFacts,
    frame_kernel, frame_ideal, frame_reference, trivial, same⟩

end Cert.Proof

end
